-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![2, 4096, 4096]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S1x4096 : Shape := ⟨2, ![1, 4096]⟩
abbrev S2048x4096 : Shape := ⟨2, ![2048, 4096]⟩
abbrev S2x256x4096 : Shape := ⟨3, ![2, 256, 4096]⟩
abbrev S8x256x4096 : Shape := ⟨3, ![8, 256, 4096]⟩
abbrev S1x256x4096 : Shape := ⟨3, ![1, 256, 4096]⟩
abbrev S3x256x4096 : Shape := ⟨3, ![3, 256, 4096]⟩
abbrev S2 : Shape := ⟨1, ![2]⟩
abbrev S8 : Shape := ⟨1, ![8]⟩
abbrev S3 : Shape := ⟨1, ![3]⟩
abbrev S1 : Shape := ⟨1, ![1]⟩
abbrev S_ : Shape := ⟨0, ![]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S2048x4096, .bf16⟩
  | .local _ .vmem, ⟨0, _⟩ => ⟨S1x4096, .f32⟩
  | .local _ .vmem, ⟨1, _⟩ => ⟨S2x256x4096, .bf16⟩
  | .local _ .vmem, ⟨2, _⟩ => ⟨S8x256x4096, .bf16⟩
  | .local _ .vmem, ⟨3, _⟩ => ⟨S2x256x4096, .bf16⟩
  | .local _ .vmem, ⟨4, _⟩ => ⟨S1x256x4096, .bf16⟩
  | .local _ .vmem, ⟨5, _⟩ => ⟨S3x256x4096, .f32⟩
  | .local _ .vmem, ⟨6, _⟩ => ⟨S2x256x4096, .f32⟩
  | .local _ .vmem, ⟨7, _⟩ => ⟨S3x256x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v18 : BitVec 32 := Scalar.muli v7 c1_i32_12
  let v19 : BitVec 32 := Scalar.addi v17 v18
  v19.toNat
def k0_off1 (d0 : Dev nD) (c0_i32_14 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let v20 : BitVec 32 := Scalar.addi v8 c0_i32_14
  let c0_i32_19 : BitVec 32 := 0#32
  ![v20.toNat, 0]
def k0_dev3 (d0 : Dev nD) : Nat :=
  let c0_i32_42 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_41 : BitVec 32 := 2#32
  let v44 : BitVec 32 := Scalar.muli v6 c2_i32_41
  let v45 : BitVec 32 := Scalar.addi c0_i32_42 v44
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v46 : BitVec 32 := Scalar.muli v5 c1_i32_43
  let v47 : BitVec 32 := Scalar.addi v45 v46
  v47.toNat
def k0_dev4 (d0 : Dev nD) : Nat :=
  let c0_i32_69 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_68 : BitVec 32 := 2#32
  let v74 : BitVec 32 := Scalar.muli v6 c2_i32_68
  let v75 : BitVec 32 := Scalar.addi c0_i32_69 v74
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_70 : BitVec 32 := 1#32
  let v76 : BitVec 32 := Scalar.muli v5 c1_i32_70
  let v77 : BitVec 32 := Scalar.addi v75 v76
  v77.toNat
def k0_dev5 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v141 : BitVec 32 := Scalar.muli v2 c2_i32_122
  let v142 : BitVec 32 := Scalar.addi c0_i32_123 v141
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_124 : BitVec 32 := 1#32
  let v143 : BitVec 32 := Scalar.muli v7 c1_i32_124
  let v144 : BitVec 32 := Scalar.addi v142 v143
  v144.toNat
def k0_dev6 (d0 : Dev nD) : Nat :=
  let c0_i32_163 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_162 : BitVec 32 := 2#32
  let v179 : BitVec 32 := Scalar.muli v6 c2_i32_162
  let v180 : BitVec 32 := Scalar.addi c0_i32_163 v179
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_164 : BitVec 32 := 1#32
  let v181 : BitVec 32 := Scalar.muli v5 c1_i32_164
  let v182 : BitVec 32 := Scalar.addi v180 v181
  v182.toNat
def k0_dev7 (d0 : Dev nD) : Nat :=
  let c0_i32_218 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_217 : BitVec 32 := 2#32
  let v246 : BitVec 32 := Scalar.muli v2 c2_i32_217
  let v247 : BitVec 32 := Scalar.addi c0_i32_218 v246
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_219 : BitVec 32 := 1#32
  let v248 : BitVec 32 := Scalar.muli v7 c1_i32_219
  let v249 : BitVec 32 := Scalar.addi v247 v248
  v249.toNat
def k0_dev8 (d0 : Dev nD) : Nat :=
  let c0_i32_258 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_257 : BitVec 32 := 2#32
  let v284 : BitVec 32 := Scalar.muli v6 c2_i32_257
  let v285 : BitVec 32 := Scalar.addi c0_i32_258 v284
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_259 : BitVec 32 := 1#32
  let v286 : BitVec 32 := Scalar.muli v5 c1_i32_259
  let v287 : BitVec 32 := Scalar.addi v285 v286
  v287.toNat
def k0_dev9 (d0 : Dev nD) : Nat :=
  let c0_i32_321 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_320 : BitVec 32 := 2#32
  let v356 : BitVec 32 := Scalar.muli v2 c2_i32_320
  let v357 : BitVec 32 := Scalar.addi c0_i32_321 v356
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_322 : BitVec 32 := 1#32
  let v358 : BitVec 32 := Scalar.muli v7 c1_i32_322
  let v359 : BitVec 32 := Scalar.addi v357 v358
  v359.toNat
def k0_off2 (d0 : Dev nD) (c0_i32_361 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c2048_i32_5 : BitVec 32 := 2048#32
  let v10 : BitVec 32 := Scalar.muli v9 c2048_i32_5
  let v398 : BitVec 32 := Scalar.addi v10 c0_i32_361
  let c0_i32_372 : BitVec 32 := 0#32
  ![v398.toNat, 0]
def k0_dev10 (d0 : Dev nD) : Nat :=
  let c0_i32_400 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_399 : BitVec 32 := 2#32
  let v430 : BitVec 32 := Scalar.muli v6 c2_i32_399
  let v431 : BitVec 32 := Scalar.addi c0_i32_400 v430
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_401 : BitVec 32 := 1#32
  let v432 : BitVec 32 := Scalar.muli v5 c1_i32_401
  let v433 : BitVec 32 := Scalar.addi v431 v432
  v433.toNat
def k0_dev11 (d0 : Dev nD) : Nat :=
  let c0_i32_462 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_461 : BitVec 32 := 2#32
  let v502 : BitVec 32 := Scalar.muli v2 c2_i32_461
  let v503 : BitVec 32 := Scalar.addi c0_i32_462 v502
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_463 : BitVec 32 := 1#32
  let v504 : BitVec 32 := Scalar.muli v7 c1_i32_463
  let v505 : BitVec 32 := Scalar.addi v503 v504
  v505.toNat
def k0_dev12 (d0 : Dev nD) : Nat :=
  let c0_i32_546 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_545 : BitVec 32 := 2#32
  let v581 : BitVec 32 := Scalar.muli v6 c2_i32_545
  let v582 : BitVec 32 := Scalar.addi c0_i32_546 v581
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_547 : BitVec 32 := 1#32
  let v583 : BitVec 32 := Scalar.muli v5 c1_i32_547
  let v584 : BitVec 32 := Scalar.addi v582 v583
  v584.toNat
def k0_dev13 (d0 : Dev nD) : Nat :=
  let c0_i32_608 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_607 : BitVec 32 := 2#32
  let v653 : BitVec 32 := Scalar.muli v2 c2_i32_607
  let v654 : BitVec 32 := Scalar.addi c0_i32_608 v653
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_609 : BitVec 32 := 1#32
  let v655 : BitVec 32 := Scalar.muli v7 c1_i32_609
  let v656 : BitVec 32 := Scalar.addi v654 v655
  v656.toNat
def k0_dev14 (d0 : Dev nD) : Nat :=
  let c0_i32_692 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_691 : BitVec 32 := 2#32
  let v732 : BitVec 32 := Scalar.muli v6 c2_i32_691
  let v733 : BitVec 32 := Scalar.addi c0_i32_692 v732
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_693 : BitVec 32 := 1#32
  let v734 : BitVec 32 := Scalar.muli v5 c1_i32_693
  let v735 : BitVec 32 := Scalar.addi v733 v734
  v735.toNat
def k0_dev15 (d0 : Dev nD) : Nat :=
  let c0_i32_754 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_753 : BitVec 32 := 2#32
  let v804 : BitVec 32 := Scalar.muli v2 c2_i32_753
  let v805 : BitVec 32 := Scalar.addi c0_i32_754 v804
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_755 : BitVec 32 := 1#32
  let v806 : BitVec 32 := Scalar.muli v7 c1_i32_755
  let v807 : BitVec 32 := Scalar.addi v805 v806
  v807.toNat
def k0_dev16 (d0 : Dev nD) : Nat :=
  let c0_i32_838 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_837 : BitVec 32 := 2#32
  let v883 : BitVec 32 := Scalar.muli v6 c2_i32_837
  let v884 : BitVec 32 := Scalar.addi c0_i32_838 v883
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_839 : BitVec 32 := 1#32
  let v885 : BitVec 32 := Scalar.muli v5 c1_i32_839
  let v886 : BitVec 32 := Scalar.addi v884 v885
  v886.toNat
def k0_dev17 (d0 : Dev nD) : Nat :=
  let c0_i32_895 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_894 : BitVec 32 := 2#32
  let v949 : BitVec 32 := Scalar.muli v2 c2_i32_894
  let v950 : BitVec 32 := Scalar.addi c0_i32_895 v949
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_896 : BitVec 32 := 1#32
  let v951 : BitVec 32 := Scalar.muli v7 c1_i32_896
  let v952 : BitVec 32 := Scalar.addi v950 v951
  v952.toNat
def k0_dev18 (d0 : Dev nD) : Nat :=
  let c0_i32_999 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_998 : BitVec 32 := 2#32
  let v1058 : BitVec 32 := Scalar.muli v2 c2_i32_998
  let v1059 : BitVec 32 := Scalar.addi c0_i32_999 v1058
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1000 : BitVec 32 := 1#32
  let v1060 : BitVec 32 := Scalar.muli v7 c1_i32_1000
  let v1061 : BitVec 32 := Scalar.addi v1059 v1060
  v1061.toNat
abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Program.lean ====
/-
  The kernel's body as a sequence of stages.

  The printed body is one straight line of some two hundred and fifty statements. It is three interleaved pipelines over
  eight chunks of 256 rows: stage X loads a chunk of the partial sums, rounds it and sends it to the neighbour along
  `x`; stage Y adds what came back to the residual, normalises, sends the rounded rows to the neighbour along `y` and
  stores them; stage Z stores the rows that neighbour sent. Here each stage is written once, for a chunk number, over
  named views of the buffers, and the printed body is shown to be their sequence.
-/
module

public import proofs.«01_k».proof.Proof.Gen.KernelIdeal.Skeleton
public import proofs.«01_k».proof.Proof.Gen.KernelIdeal.Points

@[expose] public section

set_option synthInstance.maxSize 4096

noncomputable section

namespace Cert.KernelIdeal.Rms

open Idealize.ShloMosaic Idealize.SL.Sem Cert.KernelIdeal Cert.KernelIdeal.Gen

variable {F : FTy → Type} [FloatOps F]

/-- Programs of a TensorCore of this kernel. -/
abbrev Pg (F : FTy → Type) (α : Type) := Prog (TpuEff nD τ sig (Elt F) Λ₀ .tc) α

/-! ### Chunk and slot numbers -/

/-- Chunk number `k`'s slot in a ring of three. -/
abbrev s3 (k : ℕ) : Fin 3 := ⟨k % 3, Nat.mod_lt _ (by decide)⟩
/-- Chunk number `k`'s slot in a ring of two. -/
abbrev s2 (k : ℕ) : Fin 2 := ⟨k % 2, Nat.mod_lt _ (by decide)⟩

/-! ### The views -/

/-- A slot lies in its ring of one, -/
theorem inb1 (i : Fin 1) : ∀ a, (![i.val, 0, 0] : Fin 3 → Nat) a + S1x256x4096.size a ≤ S1x256x4096.size a := by revert i; decide
/-- of two, -/
theorem inb2 (i : Fin 2) : ∀ a, (![i.val, 0, 0] : Fin 3 → Nat) a + S1x256x4096.size a ≤ S2x256x4096.size a := by revert i; decide
/-- of three, -/
theorem inb3 (i : Fin 3) : ∀ a, (![i.val, 0, 0] : Fin 3 → Nat) a + S1x256x4096.size a ≤ S3x256x4096.size a := by revert i; decide
/-- of eight. -/
theorem inb8 (i : Fin 8) : ∀ a, (![i.val, 0, 0] : Fin 3 → Nat) a + S1x256x4096.size a ≤ S8x256x4096.size a := by revert i; decide
/-- A chunk's rows lie in the half array. -/
theorem inbY (i : Fin 8) : ∀ a, (![256 * i.val, 0] : Fin 2 → Nat) a + S256x4096.size a ≤ S2048x4096.size a := by revert i; decide

/-- The rectangle of one slot of a ring of one, two, three or eight. -/
abbrev r1 (i : Fin 1) := Rect.unit (s := S1x256x4096) ![i.val, 0, 0] S1x256x4096.size (inb1 i)
abbrev r2 (i : Fin 2) := Rect.unit (s := S2x256x4096) ![i.val, 0, 0] S1x256x4096.size (inb2 i)
abbrev r3 (i : Fin 3) := Rect.unit (s := S3x256x4096) ![i.val, 0, 0] S1x256x4096.size (inb3 i)
abbrev r8 (i : Fin 8) := Rect.unit (s := S8x256x4096) ![i.val, 0, 0] S1x256x4096.size (inb8 i)
abbrev rY (i : Fin 8) := Rect.unit (s := S2048x4096) ![256 * i.val, 0] S256x4096.size (inbY i)
/-- A device's own rows of chunk `k`, and the rows of the neighbour along `y`, in a whole array. -/
abbrev rOwn (d : Dev nD) (k : Fin 8) := Rect.unit (s := S4096x4096) (k0_off1 d (BitVec.ofNat 32 (256 * k.val))) S256x4096.size (k0_off1_inb d k)
abbrev rOther (d : Dev nD) (k : Fin 8) := Rect.unit (s := S4096x4096) (k0_off2 d (BitVec.ofNat 32 (256 * k.val))) S256x4096.size (k0_off2_inb d k)

/-- The arrays in HBM: the partial sums, the residual, the result, and what the neighbour along `y` sends. -/
abbrev mPart : Memref sig .tc .hbm S4096x4096 .f32 := Memref.whole main_v1
abbrev mRes : Memref sig .tc .hbm S4096x4096 .f32 := Memref.whole main_arg1
abbrev mOut : Memref sig .tc .hbm S4096x4096 .f32 := Memref.whole main_v3_0
abbrev mYr : Memref sig .tc .hbm S2048x4096 .bf16 := Memref.whole main_v3_1
/-- The buffers in VMEM: the scales, then the rings, each slot a chunk. -/
abbrev mGam : Memref sig .tc .vmem S1x4096 .f32 := Memref.whole cc0_stg0_0
abbrev mXs : Memref sig .tc .vmem S2x256x4096 .bf16 := Memref.whole cc0_scratch0
abbrev mXr : Memref sig .tc .vmem S8x256x4096 .bf16 := Memref.whole cc0_scratch1
abbrev mYs : Memref sig .tc .vmem S2x256x4096 .bf16 := Memref.whole cc0_scratch2
abbrev mYc : Memref sig .tc .vmem S1x256x4096 .bf16 := Memref.whole cc0_scratch3
abbrev mPc : Memref sig .tc .vmem S3x256x4096 .f32 := Memref.whole cc0_scratch4
abbrev mRc : Memref sig .tc .vmem S2x256x4096 .f32 := Memref.whole cc0_scratch5
abbrev mOc : Memref sig .tc .vmem S3x256x4096 .f32 := Memref.whole cc0_scratch6

/-- One slot of each ring, as the transfers see it. -/
abbrev vXs (i : Fin 2) : Memref sig .tc .vmem S256x4096 .bf16 := (mXs.slice (r2 i) (fun _ => rfl)).squeeze S256x4096 squeezes_S1x256x4096_S256x4096
abbrev vXr (k : Fin 8) : Memref sig .tc .vmem S256x4096 .bf16 := (mXr.slice (r8 k) (fun _ => rfl)).squeeze S256x4096 squeezes_S1x256x4096_S256x4096
abbrev vYs (i : Fin 2) : Memref sig .tc .vmem S256x4096 .bf16 := (mYs.slice (r2 i) (fun _ => rfl)).squeeze S256x4096 squeezes_S1x256x4096_S256x4096
abbrev vYc : Memref sig .tc .vmem S256x4096 .bf16 := (mYc.slice (r1 0) (fun _ => rfl)).squeeze S256x4096 squeezes_S1x256x4096_S256x4096
abbrev vPc (i : Fin 3) : Memref sig .tc .vmem S256x4096 .f32 := (mPc.slice (r3 i) (fun _ => rfl)).squeeze S256x4096 squeezes_S1x256x4096_S256x4096
abbrev vRc (i : Fin 2) : Memref sig .tc .vmem S256x4096 .f32 := (mRc.slice (r2 i) (fun _ => rfl)).squeeze S256x4096 squeezes_S1x256x4096_S256x4096
abbrev vOc (i : Fin 3) : Memref sig .tc .vmem S256x4096 .f32 := (mOc.slice (r3 i) (fun _ => rfl)).squeeze S256x4096 squeezes_S1x256x4096_S256x4096
/-- The chunks of the arrays in HBM. -/
abbrev vPart (d : Dev nD) (k : Fin 8) : Memref sig .tc .hbm S256x4096 .f32 := mPart.slice (rOwn d k) (fun _ => rfl)
abbrev vRes (d : Dev nD) (k : Fin 8) : Memref sig .tc .hbm S256x4096 .f32 := mRes.slice (rOwn d k) (fun _ => rfl)
abbrev vOwn (d : Dev nD) (k : Fin 8) : Memref sig .tc .hbm S256x4096 .f32 := mOut.slice (rOwn d k) (fun _ => rfl)
abbrev vOther (d : Dev nD) (k : Fin 8) : Memref sig .tc .hbm S256x4096 .f32 := mOut.slice (rOther d k) (fun _ => rfl)
abbrev vYr (k : Fin 8) : Memref sig .tc .hbm S256x4096 .bf16 := mYr.slice (rY k) (fun _ => rfl)

/-! ### The DMA semaphores -/

abbrev xsS (i : Fin 2) : DmaSem sig := ⟨1 + i.val, by have := i.isLt; show _ < 30; omega⟩
abbrev xrS (k : Fin 8) : DmaSem sig := ⟨3 + k.val, by have := k.isLt; show _ < 30; omega⟩
abbrev ysS (i : Fin 2) : DmaSem sig := ⟨11 + i.val, by have := i.isLt; show _ < 30; omega⟩
abbrev yrS (k : Fin 8) : DmaSem sig := ⟨13 + k.val, by have := k.isLt; show _ < 30; omega⟩
abbrev pS (i : Fin 3) : DmaSem sig := ⟨21 + i.val, by have := i.isLt; show _ < 30; omega⟩
abbrev rS (i : Fin 2) : DmaSem sig := ⟨24 + i.val, by have := i.isLt; show _ < 30; omega⟩
abbrev yS : DmaSem sig := ⟨26, by decide⟩
abbrev oS (i : Fin 3) : DmaSem sig := ⟨27 + i.val, by have := i.isLt; show _ < 30; omega⟩

/-! ### The neighbours, as the statements name them -/

/-- The device chunk `k`'s first exchange names. -/
def xdev (d : Dev nD) : Fin 8 → Dev nD
  | 0 => ⟨k0_dev3 d, k0_dev3_lt d⟩ | 1 => ⟨k0_dev4 d, k0_dev4_lt d⟩ | 2 => ⟨k0_dev6 d, k0_dev6_lt d⟩
  | 3 => ⟨k0_dev8 d, k0_dev8_lt d⟩ | 4 => ⟨k0_dev10 d, k0_dev10_lt d⟩ | 5 => ⟨k0_dev12 d, k0_dev12_lt d⟩
  | 6 => ⟨k0_dev14 d, k0_dev14_lt d⟩ | 7 => ⟨k0_dev16 d, k0_dev16_lt d⟩
/-- The device chunk `k`'s second exchange names. -/
def ydev (d : Dev nD) : Fin 8 → Dev nD
  | 0 => ⟨k0_dev5 d, k0_dev5_lt d⟩ | 1 => ⟨k0_dev7 d, k0_dev7_lt d⟩ | 2 => ⟨k0_dev9 d, k0_dev9_lt d⟩
  | 3 => ⟨k0_dev11 d, k0_dev11_lt d⟩ | 4 => ⟨k0_dev13 d, k0_dev13_lt d⟩ | 5 => ⟨k0_dev15 d, k0_dev15_lt d⟩
  | 6 => ⟨k0_dev17 d, k0_dev17_lt d⟩ | 7 => ⟨k0_dev18 d, k0_dev18_lt d⟩

/-! ### What the statements need to be well formed -/

/-- Each view of a transfer covers whole words: a slot sent along `x`, -/
theorem wX (i : Fin 2) : (vXs i).view.WordExact := by
  fin_cases i
  · exact ((Memref.isWhole_whole _).wordExact_slice rfl _ wordsbf16_S2x256x4096_S1x256x4096_0_0_0).reshape _ _
  · exact ((Memref.isWhole_whole _).wordExact_slice rfl _ wordsbf16_S2x256x4096_S1x256x4096_1_0_0).reshape _ _
/-- a slot sent along `y`, -/
theorem wYs (i : Fin 2) : (vYs i).view.WordExact := by
  fin_cases i
  · exact ((Memref.isWhole_whole _).wordExact_slice rfl _ wordsbf16_S2x256x4096_S1x256x4096_0_0_0).reshape _ _
  · exact ((Memref.isWhole_whole _).wordExact_slice rfl _ wordsbf16_S2x256x4096_S1x256x4096_1_0_0).reshape _ _
/-- a slot received along `x`, -/
theorem wXr (k : Fin 8) : (vXr k).view.WordExact :=
  ((Memref.isWhole_whole _).wordExact_slice rfl _ (by
    fin_cases k
    exacts [wordsbf16_S8x256x4096_S1x256x4096_0_0_0, wordsbf16_S8x256x4096_S1x256x4096_1_0_0,
      wordsbf16_S8x256x4096_S1x256x4096_2_0_0, wordsbf16_S8x256x4096_S1x256x4096_3_0_0,
      wordsbf16_S8x256x4096_S1x256x4096_4_0_0, wordsbf16_S8x256x4096_S1x256x4096_5_0_0,
      wordsbf16_S8x256x4096_S1x256x4096_6_0_0, wordsbf16_S8x256x4096_S1x256x4096_7_0_0])).reshape _ _
/-- a chunk received along `y`, -/
theorem wYr (k : Fin 8) : (vYr k).view.WordExact :=
  (Memref.isWhole_whole _).wordExact_slice rfl _ (by
    fin_cases k
    exacts [wordsbf16_S2048x4096_S256x4096_0_0, wordsbf16_S2048x4096_S256x4096_256_0,
      wordsbf16_S2048x4096_S256x4096_512_0, wordsbf16_S2048x4096_S256x4096_768_0,
      wordsbf16_S2048x4096_S256x4096_1024_0, wordsbf16_S2048x4096_S256x4096_1280_0,
      wordsbf16_S2048x4096_S256x4096_1536_0, wordsbf16_S2048x4096_S256x4096_1792_0])
/-- the slot it is read back into. -/
theorem wYc : vYc.view.WordExact :=
  ((Memref.isWhole_whole _).wordExact_slice rfl _ wordsbf16_S1x256x4096_S1x256x4096_0_0_0).reshape _ _
/-- The rows of a slot of a ring of two pack into whole words. -/
theorem packed2 (i : Fin 2) : (r2 i).PackedRows (EltTy.packing .bf16) := by
  fin_cases i
  · exact packedbf16_S2x256x4096_S1x256x4096_0_0_0
  · exact packedbf16_S2x256x4096_S1x256x4096_1_0_0

/-! ### The values of one chunk -/

/-- The rounded chunk that is sent along `x`. -/
def roundBlk (p : FVec F S256x4096 .f32) : FVec F S256x4096 .bf16 := truncf .bf16 p bitsLt_bf16_f32

/-- The chunk before the normalisation: the partial sum of this device, that of its neighbour along `x`, the residual. -/
def sumBlk (p : FVec F S256x4096 .f32) (x : FVec F S256x4096 .bf16) (r : FVec F S256x4096 .f32) : FVec F S256x4096 .f32 :=
  addf (addf p (extf .f32 x bitsLt_bf16_f32)) r

/-- The chunk normalised row by row and scaled. -/
def normBlk (y : FVec F S256x4096 .f32) (g : Vec F S1x4096 .f32) : FVec F S256x4096 .f32 :=
  mulf (mulf y (broadcastTo S256x4096 (rsqrt (addf (divf
      (shapeCast S256x1 (multiReduction .add [1] S256 (mulf y y) 0x00000000#32 reduces_S256x4096_S256 (.inl rfl) rfl) shapeCasts_S256_S256x1)
      (broadcast S256x1 (Scalar.ofBits .f32 0x45800000#32))) (broadcast S256x1 (Scalar.ofBits .f32 0x358637BD#32))))
    broadcasts_S256x1_S256x4096))
    (broadcastTo S256x4096 (shapeCast S1x4096 g shapeCasts_S1x4096_S1x4096) broadcasts_S1x4096_S256x4096)

/-- A loaded slot as a chunk, and a chunk as a stored slot. -/
abbrev unslot {e : FTy} (v : FVec F S1x256x4096 e) : FVec F S256x4096 e := shapeCast S256x4096 v shapeCasts_S1x256x4096_S256x4096
abbrev toSlot {e : FTy} (v : FVec F S256x4096 e) : FVec F S1x256x4096 e := shapeCast S1x256x4096 v shapeCasts_S256x4096_S1x256x4096

/-! ### The statements -/

/-- Load chunk `k` of the partial sums, and wait for it. -/
def ploadStart (d : Dev nD) (k : Fin 8) : Pg F PUnit :=
  Prog.lift (.enqueueDma (vPart d k) (.here (vPc (s3 k))) (.dma (pS (s3 k))) (View.wordExact_bits rfl) ((View.wordExact_bits rfl).reshape _ _) ⟨Or.inl rfl, trivial⟩)
def ploadWait (d : Dev nD) (k : Fin 8) : Pg F PUnit :=
  Prog.lift (.waitDma2 (pS (s3 k)) (vPart d k) (vPc (s3 k)) (View.wordExact_bits rfl) ((View.wordExact_bits rfl).reshape _ _))
/-- Load chunk `k` of the residual, and wait for it. -/
def rloadStart (d : Dev nD) (k : Fin 8) : Pg F PUnit :=
  Prog.lift (.enqueueDma (vRes d k) (.here (vRc (s2 k))) (.dma (rS (s2 k))) (View.wordExact_bits rfl) ((View.wordExact_bits rfl).reshape _ _) ⟨Or.inl rfl, trivial⟩)
def rloadWait (d : Dev nD) (k : Fin 8) : Pg F PUnit :=
  Prog.lift (.waitDma2 (rS (s2 k)) (vRes d k) (vRc (s2 k)) (View.wordExact_bits rfl) ((View.wordExact_bits rfl).reshape _ _))
/-- Send chunk `k` along `x`; wait for its departure; wait for the neighbour's. -/
def xStart (dx : Dev nD) (k : Fin 8) : Pg F PUnit :=
  Prog.lift (.enqueueDma (vXs (s2 k)) (.remote (Dev.tc dx) (vXr k) (.dma (xsS (s2 k)))) (.dma (xrS k)) (wX _) (wXr k) ⟨⟨rfl, Or.inl rfl⟩, trivial⟩)
def xWaitSend (k : Fin 8) : Pg F PUnit := Prog.lift (.waitDma2 (xsS (s2 k)) (vXr k) (vXs (s2 k)) (wXr k) (wX _))
def xWaitRecv (k : Fin 8) : Pg F PUnit := Prog.lift (.waitDma2 (xrS k) (vXs (s2 k)) (vXr k) (wX _) (wXr k))
/-- Send chunk `k` along `y`; wait for its departure; wait for the neighbour's. -/
def yStart (dy : Dev nD) (k : Fin 8) : Pg F PUnit :=
  Prog.lift (.enqueueDma (vYs (s2 k)) (.remote (Dev.tc dy) (vYr k) (.dma (ysS (s2 k)))) (.dma (yrS k)) (wYs _) (wYr k) ⟨⟨rfl, Or.inl rfl⟩, trivial⟩)
def yWaitSend (k : Fin 8) : Pg F PUnit := Prog.lift (.waitDma2 (ysS (s2 k)) (vYr k) (vYs (s2 k)) (wYr k) (wYs _))
def yWaitRecv (k : Fin 8) : Pg F PUnit := Prog.lift (.waitDma2 (yrS k) (vYs (s2 k)) (vYr k) (wYs _) (wYr k))
/-- Load the rows the neighbour along `y` sent, and wait for them. -/
def yloadStart (k : Fin 8) : Pg F PUnit :=
  Prog.lift (.enqueueDma (vYr k) (.here vYc) (.dma yS) (wYr k) wYc ⟨Or.inl rfl, trivial⟩)
def yloadWait (k : Fin 8) : Pg F PUnit := Prog.lift (.waitDma2 yS (vYr k) vYc (wYr k) wYc)

/-- Read a slot of each ring. -/
def readP (i : Fin 3) : Pg F (Vec F S1x256x4096 .f32) := Prog.lift (.load mPc (r3 i).toLoadRect (View.loadsAt_vmem h_S1x256x4096))
def readR (i : Fin 2) : Pg F (Vec F S1x256x4096 .f32) := Prog.lift (.load mRc (r2 i).toLoadRect (View.loadsAt_vmem h_S1x256x4096))
def readXr (k : Fin 8) : Pg F (Vec F S1x256x4096 .bf16) := Prog.lift (.load mXr (r8 k).toLoadRect (View.loadsAt_vmem h_S1x256x4096))
def readYc : Pg F (Vec F S1x256x4096 .bf16) := Prog.lift (.load mYc (r1 0).toLoadRect (View.loadsAt_vmem h_S1x256x4096))
def readG : Pg F (Vec F S1x4096 .f32) :=
  Prog.lift (.load mGam (Rect.unit (s := S1x4096) ![0, 0] S1x4096.size inb_S1x4096_S1x4096_0_0).toLoadRect (View.loadsAt_vmem h_S1x4096))
/-- Write a slot of each ring the body writes (each write is printed after a read of the slot whose value is not used). -/
def writeXs (i : Fin 2) (v : FVec F S1x256x4096 .bf16) : Pg F PUnit := do
  let _ : Vec F S1x256x4096 .bf16 ← Prog.lift (.load mXs (r2 i).toLoadRect (View.loadsAt_vmem h_S1x256x4096))
  Prog.lift (.store mXs (r2 i) v Finset.univ (View.stores_vmem h_S1x256x4096 ((Memref.isWhole_whole _).storeExact_slice rfl _ (packed2 i)) (fun _ => rfl)) (.inl rfl))
def writeYs (i : Fin 2) (v : FVec F S1x256x4096 .bf16) : Pg F PUnit := do
  let _ : Vec F S1x256x4096 .bf16 ← Prog.lift (.load mYs (r2 i).toLoadRect (View.loadsAt_vmem h_S1x256x4096))
  Prog.lift (.store mYs (r2 i) v Finset.univ (View.stores_vmem h_S1x256x4096 ((Memref.isWhole_whole _).storeExact_slice rfl _ (packed2 i)) (fun _ => rfl)) (.inl rfl))
def writeOc (i : Fin 3) (v : FVec F S1x256x4096 .f32) : Pg F PUnit := do
  let _ : Vec F S1x256x4096 .f32 ← Prog.lift (.load mOc (r3 i).toLoadRect (View.loadsAt_vmem h_S1x256x4096))
  Prog.lift (.store mOc (r3 i) v Finset.univ (View.stores_vmem_bits_univ h_S1x256x4096 rfl) (.inl rfl))

/-- The destination of the body's `n`-th store into the result: its own chunks 0, 1, 2, then in turn the neighbour's
    and its own, then the neighbour's last two. -/
def outDst (d : Dev nD) (n : ℕ) : Memref sig .tc .hbm S256x4096 .f32 :=
  if n < 3 then vOwn d ⟨n % 8, Nat.mod_lt _ (by decide)⟩
  else if n = 15 then vOther d 7
  else if n % 2 = 1 then vOther d ⟨((n - 3) / 2) % 8, Nat.mod_lt _ (by decide)⟩
  else if n = 14 then vOther d 6
  else vOwn d ⟨((n + 2) / 2) % 8, Nat.mod_lt _ (by decide)⟩

/-- The destination of a store covers whole words. -/
theorem wOut (d : Dev nD) (n : ℕ) : (outDst d n).view.WordExact := View.wordExact_bits rfl

/-- Start the `n`-th store into the result; wait for it. -/
def ostoreStart (d : Dev nD) (n : ℕ) : Pg F PUnit :=
  Prog.lift (.enqueueDma (vOc (s3 n)) (.here (outDst d n)) (.dma (oS (s3 n))) ((View.wordExact_bits rfl).reshape _ _) (wOut d n) ⟨Or.inl rfl, trivial⟩)
def ostoreWait (d : Dev nD) (n : ℕ) : Pg F PUnit :=
  Prog.lift (.waitDma2 (oS (s3 n)) (vOc (s3 n)) (outDst d n) ((View.wordExact_bits rfl).reshape _ _) (wOut d n))

/-! ### The stages -/

/-- The chunk before chunk `k` in the same slot of a ring of two. -/
abbrev prev2 (k : Fin 8) : Fin 8 := ⟨k.val - 2, by have := k.isLt; omega⟩
/-- The next chunk, if there is one. -/
abbrev next (k : Fin 8) : Fin 8 := ⟨(k.val + 1) % 8, Nat.mod_lt _ (by decide)⟩

/-- Wait until the slot of a send, or of a store, is free of its last. -/
def xReady (k : Fin 8) : Pg F PUnit := if 2 ≤ k.val then xWaitSend (prev2 k) else pure ⟨⟩
def yReady (k : Fin 8) : Pg F PUnit := if 2 ≤ k.val then yWaitSend (prev2 k) else pure ⟨⟩
def oReady (d : Dev nD) (n : ℕ) : Pg F PUnit := if 3 ≤ n then ostoreWait d (n - 3) else pure ⟨⟩
/-- Set the next chunk on its way, if there is one. -/
def pNext (d : Dev nD) (k : Fin 8) : Pg F PUnit := if k.val < 7 then ploadStart d (next k) else pure ⟨⟩
def rNext (d : Dev nD) (k : Fin 8) : Pg F PUnit := if k.val < 7 then rloadStart d (next k) else pure ⟨⟩

/-- The `n`-th store into the result: once the slot's previous store is over. -/
def store (d : Dev nD) (n : ℕ) (v : FVec F S256x4096 .f32) : Pg F PUnit := do
  oReady d n
  writeOc (s3 n) (toSlot v)
  ostoreStart d n

/-- Stage X of chunk `k`: round it and send it along `x`. -/
def stageX (d : Dev nD) (k : Fin 8) : Pg F PUnit := do
  ploadWait d k
  xReady k
  let p ← readP (s3 k)
  writeXs (s2 k) (toSlot (roundBlk (unslot p)))
  xStart (xdev d k) k
  pNext d k

/-- Stage Y of chunk `k`: sum, normalise, send along `y`, store. -/
def stageY (d : Dev nD) (k : Fin 8) (n : ℕ) : Pg F PUnit := do
  rloadWait d k
  rNext d k
  xWaitRecv k
  let p ← readP (s3 k)
  let x ← readXr k
  let r ← readR (s2 k)
  let g ← readG
  yReady k
  writeYs (s2 k) (toSlot (roundBlk (normBlk (sumBlk (unslot p) (unslot x) (unslot r)) g)))
  yStart (ydev d k) k
  store d n (normBlk (sumBlk (unslot p) (unslot x) (unslot r)) g)

/-- Stage Z of chunk `k`: store the rows the neighbour along `y` sent. -/
def stageZ (d : Dev nD) (k : Fin 8) (n : ℕ) : Pg F PUnit := do
  yWaitRecv k
  yloadStart k
  yloadWait k
  let z ← readYc
  store d n (extf .f32 (unslot z) bitsLt_bf16_f32)

/-- The rendezvous with both neighbours, and the first loads. -/
def opening (d : Dev nD) : Pg F PUnit := do
  semSignalWord (⟨k0_dev1 d, k0_dev1_lt d⟩ : Dev nD) barrier0 1#32
  semSignalWord (⟨k0_dev2 d, k0_dev2_lt d⟩ : Dev nD) barrier0 1#32
  semWaitWord barrier0 2#32
  ploadStart d 0
  rloadStart d 0

/-- The last stores and departures waited for. -/
def closing (d : Dev nD) : Pg F PUnit := do
  ostoreWait d 15
  ostoreWait d 13
  ostoreWait d 14
  xWaitSend 6
  yWaitSend 6
  xWaitSend 7
  yWaitSend 7

/-- The body of device `d`: the stages in the order in which they are interleaved. -/
def stages (d : Dev nD) : Pg F PUnit := do
  opening d
  stageX d 0
  stageX d 1
  stageY d 0 0
  stageX d 2
  stageY d 1 1
  stageX d 3
  stageY d 2 2
  stageZ d 0 3
  stageX d 4
  stageY d 3 4
  stageZ d 1 5
  stageX d 5
  stageY d 4 6
  stageZ d 2 7
  stageX d 6
  stageY d 5 8
  stageZ d 3 9
  stageX d 7
  stageY d 6 10
  stageZ d 4 11
  stageY d 7 12
  stageZ d 5 13
  stageZ d 6 14
  stageZ d 7 15
  closing d

/-- The body. -/
def body : Pg F PUnit := do
  let d ← Prog.lift .deviceId
  stages d

end Cert.KernelIdeal.Rms

end
-- ==== Proof.Protocol.lean ====
/-
  The protocol of the exchanges.

  The four devices are a two by two mesh. Along `x` a device exchanges its rounded partial sums with one neighbour,
  along `y` its finished rows with the other. Each exchange of a chunk is one transfer: it raises the sender's departure
  semaphore, which gives the sender its slot back, and the receiver's arrival semaphore, which gives the receiver the
  chunk. The rendezvous at the start gives each neighbour the empty slots it will write.

  This module names the cells, says what is paid into each and what it hands over, and says what a device owes at the
  start and in which order the waits are safe. What is sent is a parameter here: `SX c k` is chunk `k` as device `c`
  sends it along `x`, `SY c k` the one it sends along `y`.
-/
module

public import proofs.«01_k».proof.Proof.Program
public import proofs.«01_k».proof.Proof.Gen.KernelIdeal.Frame

@[expose] public section

set_option synthInstance.maxSize 4096

noncomputable section

namespace Cert.KernelIdeal.Rms

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ### The neighbours -/

/-- The neighbour along `x`. -/
def xn (c : Dev nD) : Dev nD := ⟨(c.val + 2) % 4, Nat.mod_lt _ (by decide)⟩
/-- The neighbour along `y`. -/
def yn (c : Dev nD) : Dev nD := ⟨2 * (c.val / 2) + (1 - c.val % 2), by have := c.isLt; show _ < 4; change c.val < 4 at this; omega⟩

/-- The neighbour's neighbour along `x` is the device, -/
theorem xn_xn : ∀ c : Dev nD, xn (xn c) = c := by decide
/-- and so along `y`. -/
theorem yn_yn : ∀ c : Dev nD, yn (yn c) = c := by decide
/-- The two neighbours are different devices. -/
theorem xn_ne_yn : ∀ c : Dev nD, xn c ≠ yn c := by decide
/-- The same, the other way round. -/
theorem yn_ne_xn (c : Dev nD) : yn c ≠ xn c := (xn_ne_yn c).symm

/-- The device each transfer along `x` names is the neighbour along `x`, -/
theorem xdev_eq : ∀ (c : Dev nD) (k : Fin 8), xdev c k = xn c := by decide
/-- and along `y` the neighbour along `y`. -/
theorem ydev_eq : ∀ (c : Dev nD) (k : Fin 8), ydev c k = yn c := by decide
/-- The first signal goes to the neighbour along `x`, -/
theorem dev1_eq : ∀ c : Dev nD, (⟨k0_dev1 c, k0_dev1_lt c⟩ : Dev nD) = xn c := by decide
/-- the second to the neighbour along `y`. -/
theorem dev2_eq : ∀ c : Dev nD, (⟨k0_dev2 c, k0_dev2_lt c⟩ : Dev nD) = yn c := by decide

/-! ### The algebra of the proof -/

/-- The exchanges' rounds, two duties to a round at most. -/
abbrev UB : Type := URounds (GSem nD τ sig) Bool
abbrev UU : Type := UR sig nD τ × (UB × Counters)

local notation "𝕄" => MT nD τ sig Unit (Elt F) ℕ UU ℕ

abbrev EP : Emb (UR sig nD τ) 𝕄 := embL
def ER : Emb UB 𝕄 := (Emb.inl : Emb UB (UB × Counters)).trans embR
abbrev EC : UEmb Counters 𝕄 := countersEmb

instance ER_landsIn : (ER : Emb UB 𝕄).LandsIn (upEmb : UEmb _ 𝕄) := by unfold ER; infer_instance

/-! ### A chunk held -/

section Chunk

variable {sp : Space} {e : EltTy}

/-- Device `c` holds the chunk `v` of one of its buffers, which reads `X`. -/
def Holds (c : Dev nD) (v : Memref sig .tc sp S256x4096 e) (X : S256x4096.Idx → Elt F e) : sProp 𝕄 :=
  iprop(∃ f : Buf (Elt F) (v.view.loc (c : Thread nD τ)), ⌜v.view.read (Elt F) f = X⌝ ∗ (v.view.loc (c : Thread nD τ) ↦[v.view.set]{fullShare} f))

/-- Device `c` holds the chunk `v`, whatever it reads. -/
def Free (c : Dev nD) (v : Memref sig .tc sp S256x4096 e) : sProp 𝕄 :=
  iprop(∃ f : Buf (Elt F) (v.view.loc (c : Thread nD τ)), (v.view.loc (c : Thread nD τ) ↦[v.view.set]{fullShare} f))

/-- A slot with known contents is a slot. -/
theorem Holds.free (c : Dev nD) (v : Memref sig .tc sp S256x4096 e) (X : S256x4096.Idx → Elt F e) : (Holds c v X : sProp 𝕄) ⊢ Free c v := by
  unfold Holds Free
  iintro ⟨%f, -, H⟩
  iexists f; iexact H

/-- Holding the chunk at contents of the buffer is holding it reading what they read there. -/
theorem Holds.intro (c : Dev nD) (v : Memref sig .tc sp S256x4096 e) (f : Buf (Elt F) (v.view.loc (c : Thread nD τ))) :
    (v.view.loc (c : Thread nD τ) ↦[v.view.set]{fullShare} f : sProp 𝕄) ⊢ Holds c v (v.view.read (Elt F) f) := by
  unfold Holds
  iintro H
  iexists f; isplitr; · ipureintro; rfl
  iexact H

/-- A held chunk reading what contents `g` of the buffer read there is held at `g`. -/
theorem Holds.elim (c : Dev nD) (v : Memref sig .tc sp S256x4096 e) (g : Buf (Elt F) (v.view.loc (c : Thread nD τ))) :
    (Holds c v (v.view.read (Elt F) g) : sProp 𝕄) ⊢ (v.view.loc (c : Thread nD τ) ↦[v.view.set]{fullShare} g) := by
  unfold Holds
  iintro ⟨%f, %hf, H⟩
  iapply (Entails.of_eq (pointsTo_congr (f := f) (g := g) fun i hi => by
    obtain ⟨x, -, rfl⟩ := Finset.mem_map.mp hi
    have := congrFun hf x
    rw [View.read_apply, View.read_apply] at this
    exact (cast_inj _).mp this)) $$ H

instance Holds_storable (c : Dev nD) (v : Memref sig .tc sp S256x4096 e) (X : S256x4096.Idx → Elt F e) :
    BI.Storable (upEmb : UEmb _ 𝕄) (Holds c v X : sProp 𝕄) := by unfold Holds; infer_instance
instance Free_storable (c : Dev nD) (v : Memref sig .tc sp S256x4096 e) : BI.Storable (upEmb : UEmb _ 𝕄) (Free c v : sProp 𝕄) := by
  unfold Free; infer_instance

end Chunk

/-! ### The cells -/

abbrev barC (c : Dev nD) : GSem nD τ sig := ((c : Thread nD τ), .reg barrier0)
abbrev xsC (c : Dev nD) (i : Fin 2) : GSem nD τ sig := ((c : Thread nD τ), .dma (xsS i))
abbrev xrC (c : Dev nD) (k : Fin 8) : GSem nD τ sig := ((c : Thread nD τ), .dma (xrS k))
abbrev ysC (c : Dev nD) (i : Fin 2) : GSem nD τ sig := ((c : Thread nD τ), .dma (ysS i))
abbrev yrC (c : Dev nD) (k : Fin 8) : GSem nD τ sig := ((c : Thread nD τ), .dma (yrS k))

/-- What a semaphore is for. -/
inductive Use
  | bar
  | xs (i : Fin 2)
  | xr (k : Fin 8)
  | ys (i : Fin 2)
  | yr (k : Fin 8)
  | own
  deriving DecidableEq

/-- What the semaphore is for, by its number. -/
def use : SemLoc sig → Use
  | .reg _ => .bar
  | .dma s =>
    if h : 1 ≤ s.val ∧ s.val < 3 then .xs ⟨s.val - 1, by omega⟩
    else if h : 3 ≤ s.val ∧ s.val < 11 then .xr ⟨s.val - 3, by omega⟩
    else if h : 11 ≤ s.val ∧ s.val < 13 then .ys ⟨s.val - 11, by omega⟩
    else if h : 13 ≤ s.val ∧ s.val < 21 then .yr ⟨s.val - 13, by omega⟩
    else .own

/-- What each semaphore is for: the rendezvous, -/
theorem use_bar : use (.reg barrier0) = .bar := rfl
/-- a departure along `x`, -/
theorem use_xs : ∀ i : Fin 2, use (.dma (xsS i)) = .xs i := by decide
/-- an arrival along `x`, -/
theorem use_xr : ∀ k : Fin 8, use (.dma (xrS k)) = .xr k := by decide
/-- a departure along `y`, -/
theorem use_ys : ∀ i : Fin 2, use (.dma (ysS i)) = .ys i := by decide
/-- an arrival along `y`, -/
theorem use_yr : ∀ k : Fin 8, use (.dma (yrS k)) = .yr k := by decide
/-- a device's own load of partial sums, -/
theorem use_p : ∀ i : Fin 3, use (.dma (pS i)) = .own := by decide
/-- of the residual, -/
theorem use_r : ∀ i : Fin 2, use (.dma (rS i)) = .own := by decide
/-- of the neighbour's rows, -/
theorem use_y : use (.dma yS) = .own := by decide
/-- or a device's own store. -/
theorem use_o : ∀ i : Fin 3, use (.dma (oS i)) = .own := by decide

/-- What a transfer of a chunk of the exchanges credits, and of the 32-bit chunks. -/
abbrev N : ℕ := (vXr 0).view.dmaCredit
abbrev NF : ℕ := (vPc 0).view.dmaCredit
/-- A transfer of a bf16 chunk pays something, -/
theorem N_pos : 0 < N := View.dmaCredit_pos _ (by decide)
/-- and so does a copy of an f32 chunk. -/
theorem NF_pos : 0 < NF := View.dmaCredit_pos _ (by decide)

/-! ### The schedule -/

variable (SX SY : Dev nD → Fin 8 → FVec F S256x4096 .bf16)

/-- What the neighbour along `x` brings to the rendezvous at `c`: the slots of its own `c` will write, and that their
    cells are open. -/
def barX (c : Dev nD) : sProp 𝕄 :=
  bigSep (Finset.univ : Finset (Fin 8)) fun k => iprop(Free (xn c) (vXr k) ∗ reached ER (xrC (xn c) k) 0)
/-- What the neighbour along `y` brings. -/
def barY (c : Dev nD) : sProp 𝕄 :=
  bigSep (Finset.univ : Finset (Fin 8)) fun k => iprop(Free (yn c) (vYr k) ∗ reached ER (yrC (yn c) k) 0)

instance barX_storable (c : Dev nD) : BI.Storable (upEmb : UEmb _ 𝕄) (barX c : sProp 𝕄) := by unfold barX; infer_instance
instance barY_storable (c : Dev nD) : BI.Storable (upEmb : UEmb _ 𝕄) (barY c : sProp 𝕄) := by unfold barY; infer_instance

/-- What is handed over on device `c` by the duty `d` of a cell used for `u`. -/
def pay (c : Dev nD) : Use → Bool → sProp 𝕄
  | .bar, true => barX c
  | .bar, false => barY c
  | .xs i, _ => Free c (vXs i)
  | .xr k, _ => Holds c (vXr k) (SX (xn c) k)
  | .ys i, _ => Free c (vYs i)
  | .yr k, _ => Holds c (vYr k) (SY (yn c) k)
  | .own, _ => iprop(emp)

/-- The duties of a round: both neighbours' at the rendezvous, one transfer's at any other. -/
def dut : Use → ℕ → Finset Bool
  | .bar, r => if r = 0 then {true, false} else ∅
  | .xs _, r => if r < 4 then {true} else ∅
  | .xr _, r => if r = 0 then {true} else ∅
  | .ys _, r => if r < 4 then {true} else ∅
  | .yr _, r => if r = 0 then {true} else ∅
  | .own, _ => ∅

/-- The exchanges' schedule. -/
def Rd : Schedule (GSem nD τ sig) Bool 𝕄 where
  duties g r := dut (use g.2) r
  unitless _ := False
  amount g _ _ := if use g.2 = .bar then 1 else N
  payload g _ d := pay SX SY g.1.1 (use g.2) d
  amount_pos g _ _ _ := by
    by_cases h : use g.2 = .bar
    · rw [if_pos h]; exact Nat.one_pos
    · rw [if_neg h]; exact N_pos

instance Rd_storable (g : GSem nD τ sig) (r : ℕ) (d : Bool) : BI.Storable (upEmb : UEmb _ 𝕄) ((Rd SX SY).payload g r d) := by
  show BI.Storable upEmb (pay SX SY g.1.1 (use g.2) d)
  unfold pay
  split <;> infer_instance

section Sched

variable (c : Dev nD)

/-- Two pay into the rendezvous. -/
theorem duties_bar : (Rd SX SY).duties (barC c) 0 = {true, false} := rfl
/-- One pays into each round of a departure cell along `x`, -/
theorem duties_xs (i : Fin 2) (r : ℕ) (hr : r < 4) : (Rd SX SY).duties (xsC c i) r = {true} := by
  show dut (use (.dma (xsS i))) r = _; rw [use_xs]; exact if_pos hr
/-- and along `y`, -/
theorem duties_ys (i : Fin 2) (r : ℕ) (hr : r < 4) : (Rd SX SY).duties (ysC c i) r = {true} := by
  show dut (use (.dma (ysS i))) r = _; rw [use_ys]; exact if_pos hr
/-- and into the round of an arrival cell along `x`, -/
theorem duties_xr (k : Fin 8) : (Rd SX SY).duties (xrC c k) 0 = {true} := by
  show dut (use (.dma (xrS k))) 0 = _; rw [use_xr]; rfl
/-- and along `y`. -/
theorem duties_yr (k : Fin 8) : (Rd SX SY).duties (yrC c k) 0 = {true} := by
  show dut (use (.dma (yrS k))) 0 = _; rw [use_yr]; rfl

/-- After the last round of a cell, none. -/
theorem over_bar : ∀ r, 1 ≤ r → (Rd SX SY).duties (barC c) r = ∅ := fun r hr => by
  show dut (use (.reg barrier0)) r = _; rw [use_bar]; exact if_neg (by omega)
/-- A departure cell along `x` has four rounds, -/
theorem over_xs (i : Fin 2) : ∀ r, 4 ≤ r → (Rd SX SY).duties (xsC c i) r = ∅ := fun r hr => by
  show dut (use (.dma (xsS i))) r = _; rw [use_xs]; exact if_neg (by omega)
/-- and so along `y`. -/
theorem over_ys (i : Fin 2) : ∀ r, 4 ≤ r → (Rd SX SY).duties (ysC c i) r = ∅ := fun r hr => by
  show dut (use (.dma (ysS i))) r = _; rw [use_ys]; exact if_neg (by omega)
/-- An arrival cell along `x` has one round, -/
theorem over_xr (k : Fin 8) : ∀ r, 1 ≤ r → (Rd SX SY).duties (xrC c k) r = ∅ := fun r hr => by
  show dut (use (.dma (xrS k))) r = _; rw [use_xr]; exact if_neg (by omega)
/-- and so along `y`. -/
theorem over_yr (k : Fin 8) : ∀ r, 1 ≤ r → (Rd SX SY).duties (yrC c k) r = ∅ := fun r hr => by
  show dut (use (.dma (yrS k))) r = _; rw [use_yr]; exact if_neg (by omega)

/-- A signal pays one. -/
theorem amount_bar (d : Bool) : (Rd SX SY).amount (barC c) 0 d = 1 := rfl
/-- A transfer pays its chunk's amount. -/
theorem amount_dma (s : DmaSem sig) (r : ℕ) (d : Bool) : (Rd SX SY).amount ((c : Thread nD τ), .dma s) r d = N :=
  if_neg (by unfold use; dsimp only; split_ifs <;> simp)

/-- The rendezvous waits for two. -/
theorem expect_bar : (Rd SX SY).expect (barC c) 0 = 2 := rfl
/-- A round with one payer waits for one chunk's amount. -/
theorem expect_one (s : DmaSem sig) (r : ℕ) (h : (Rd SX SY).duties ((c : Thread nD τ), .dma s) r = {true}) :
    (Rd SX SY).expect ((c : Thread nD τ), .dma s) r = N := by
  unfold Schedule.expect Schedule.amountOf; rw [h, Finset.sum_singleton, amount_dma]

/-- What a signal hands over is the rendezvous's payload. -/
theorem pay_bar (d : Bool) : pay SX SY c .bar d = (Rd SX SY).payload (barC c) 0 d := by
  show _ = pay SX SY c (use (.reg barrier0)) d; rw [use_bar]
/-- A departure along `x` hands the slot back, -/
theorem payload_xs (i : Fin 2) (r : ℕ) (d : Bool) : (Rd SX SY).payload (xsC c i) r d = Free c (vXs i) := by
  show pay SX SY c (use (.dma (xsS i))) d = _; rw [use_xs]; rfl
/-- and so along `y`. -/
theorem payload_ys (i : Fin 2) (r : ℕ) (d : Bool) : (Rd SX SY).payload (ysC c i) r d = Free c (vYs i) := by
  show pay SX SY c (use (.dma (ysS i))) d = _; rw [use_ys]; rfl
/-- An arrival along `x` hands over the chunk the neighbour sent, -/
theorem payload_xr (k : Fin 8) (r : ℕ) (d : Bool) : (Rd SX SY).payload (xrC c k) r d = Holds c (vXr k) (SX (xn c) k) := by
  show pay SX SY c (use (.dma (xrS k))) d = _; rw [use_xr]; rfl
/-- and so along `y`. -/
theorem payload_yr (k : Fin 8) (r : ℕ) (d : Bool) : (Rd SX SY).payload (yrC c k) r d = Holds c (vYr k) (SY (yn c) k) := by
  show pay SX SY c (use (.dma (yrS k))) d = _; rw [use_yr]; rfl

/-- What the rendezvous hands over. -/
theorem rest_bar : bigSep ((Rd SX SY).duties (barC c) 0 \ ∅) (fun d => (Rd SX SY).payload (barC c) 0 d) = iprop(barX c ∗ barY c) := by
  rw [Finset.sdiff_empty, duties_bar, bigSep_insert (by decide), bigSep_singleton]; rfl
/-- What a round of one duty hands over. -/
theorem rest_one (s : DmaSem sig) (r : ℕ) (h : (Rd SX SY).duties ((c : Thread nD τ), .dma s) r = {true}) :
    bigSep ((Rd SX SY).duties ((c : Thread nD τ), .dma s) r \ ∅) (fun d => (Rd SX SY).payload ((c : Thread nD τ), .dma s) r d)
      = (Rd SX SY).payload ((c : Thread nD τ), .dma s) r true := by
  rw [Finset.sdiff_empty, h, bigSep_singleton]

end Sched

/-! ### What a device owes, and the order of the waits -/

/-- What device `c` still owes with its first `kx` sends along `x` and its first `ky` along `y` made. -/
def owed (c : Dev nD) (kx ky : ℕ) : CellTallies nD τ sig Unit :=
  (∑ k ∈ (Finset.univ : Finset (Fin 8)).filter (fun k => kx ≤ k.val), tallyAt (xrC (xn c) k) () N)
    + ∑ k ∈ (Finset.univ : Finset (Fin 8)).filter (fun k => ky ≤ k.val), tallyAt (yrC (yn c) k) () N

/-- What it owes at the start: a unit to each neighbour's rendezvous besides. -/
def O₀ (c : Dev nD) : CellTallies nD τ sig Unit :=
  owed c 0 0 + tallyAt (barC (yn c)) () 1 + tallyAt (barC (xn c)) () 1

/-- The chunks from `k` on are `k` and those after it. -/
theorem filter_peel (k : Fin 8) : (Finset.univ : Finset (Fin 8)).filter (fun j => k.val ≤ j.val)
    = insert k ((Finset.univ : Finset (Fin 8)).filter (fun j => k.val + 1 ≤ j.val)) := by revert k; decide

/-- A send along `x` pays its chunk off. -/
theorem owed_x (c : Dev nD) (k : Fin 8) (ky : ℕ) : owed c k.val ky = owed c (k.val + 1) ky + tallyAt (xrC (xn c) k) () N := by
  unfold owed
  rw [filter_peel, Finset.sum_insert (by simp), add_comm (tallyAt _ _ _), add_right_comm]
/-- A send along `y` pays its chunk off. -/
theorem owed_y (c : Dev nD) (kx : ℕ) (k : Fin 8) : owed c kx k.val = owed c kx (k.val + 1) + tallyAt (yrC (yn c) k) () N := by
  unfold owed
  rw [filter_peel, Finset.sum_insert (by simp), add_comm (tallyAt _ _ _), add_assoc]
/-- All sends made, it owes nothing. -/
theorem owed_end (c : Dev nD) : owed c 8 8 = 0 := by
  unfold owed
  rw [show (Finset.univ : Finset (Fin 8)).filter (fun k => 8 ≤ k.val) = ∅ from by decide, Finset.sum_empty, Finset.sum_empty, add_zero]

/-- Where something is owed it is to a neighbour's arrival not yet sent. -/
theorem owed_pos {c : Dev nD} {kx ky : ℕ} {g : GSem nD τ sig} {u : Unit} (h : 0 < owed c kx ky g u) :
    (∃ k : Fin 8, kx ≤ k.val ∧ g = xrC (xn c) k) ∨ ∃ k : Fin 8, ky ≤ k.val ∧ g = yrC (yn c) k := by
  have key (S : Finset (Fin 8)) (C : Fin 8 → GSem nD τ sig) (h : 0 < (∑ k ∈ S, tallyAt (C k) () N : CellTallies nD τ sig Unit) g u) :
      ∃ k ∈ S, g = C k := by
    by_contra hc
    refine absurd h (Nat.not_lt.mpr (Nat.le_of_eq ?_))
    rw [Finset.sum_apply, Finsupp.finset_sum_apply]
    refine Finset.sum_eq_zero fun k hk => ?_
    rw [tallyAt_apply, if_neg fun hg => hc ⟨k, hk, hg.1⟩]
  unfold owed at h
  rw [Pi.add_apply, Finsupp.add_apply] at h
  rcases Nat.add_pos_iff_pos_or_pos.mp h with h | h
  · obtain ⟨k, hk, hg⟩ := key _ _ h
    exact .inl ⟨k, (Finset.mem_filter.mp hk).2, hg⟩
  · obtain ⟨k, hk, hg⟩ := key _ _ h
    exact .inr ⟨k, (Finset.mem_filter.mp hk).2, hg⟩

/-- The level of a wait: a device's own transfers first, then the rendezvous, then the arrivals in their order. -/
def level : Use → ℕ
  | .bar => 1
  | .xr k => 2 + 2 * k.val
  | .yr k => 3 + 2 * k.val
  | _ => 0

def L (g : GSem nD τ sig) : Finset Unit := if g.1.2 = .tc then {()} else ∅
def lv (g : GSem nD τ sig) (_ : Unit) : ℕ := level (use g.2)

/-- Only a TensorCore's semaphores have levels, -/
theorem L_of_ne (g : GSem nD τ sig) (h : g.1.2 ≠ .tc) : L g = ∅ := if_neg h
/-- and each of those has one. -/
theorem L_tc (c : Dev nD) (sm : SemLoc sig) : L ((c : Thread nD τ), sm) = {()} := if_pos rfl

/-- A wait is safe while everything still owed is of a higher level. -/
theorem mayWait (c : Dev nD) (sm : SemLoc sig) (kx ky : ℕ) (hx : level (use sm) < 2 + 2 * kx) (hy : level (use sm) < 3 + 2 * ky) :
    (levAts L lv : sProp 𝕄) ⊢ MayWait (c : Thread nD τ) sm () (owed c kx ky) :=
  MayOwe.of_cut (L := L) (lev := lv) (level (use sm))
    (fun p hp => by rw [Finset.mem_singleton.mp hp, L_tc]; exact Finset.mem_singleton_self _)
    (fun g u hg => by
      rcases owed_pos hg with ⟨k, -, rfl⟩ | ⟨k, -, rfl⟩ <;> (rw [L_tc]; exact Finset.mem_singleton_self _))
    (fun p hp => by rw [Finset.mem_singleton.mp hp]; exact le_rfl)
    (fun g u hg => by
      rcases owed_pos hg with ⟨k, hk, rfl⟩ | ⟨k, hk, rfl⟩
      · show _ < level (use (.dma (xrS k))); rw [use_xr]; show _ < 2 + 2 * k.val; omega
      · show _ < level (use (.dma (yrS k))); rw [use_yr]; show _ < 3 + 2 * k.val; omega)

end Cert.KernelIdeal.Rms

end
-- ==== Proof.Ops.lean ====
/-
  What each statement of the body does to what a device holds.

  Each lemma is one statement at a device: from what it needs, whatever may be shown from what it leaves may be shown of
  the statement. A chunk is held as `Holds`, what it reads named; the semaphores of the device's own transfers are held
  at zero between a transfer's wait and the next one's start.
-/
module

public import Idealize.ShloMosaic.Lib.Pipeline.Value
public import proofs.«01_k».proof.Proof.Protocol

@[expose] public section

set_option synthInstance.maxSize 4096

noncomputable section

namespace Cert.KernelIdeal.Rms

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

abbrev 𝒱₀ : Variants := Variants.none

/-- `Q` may be shown of the program `p` run on device `c`. -/
abbrev WP {α : Type} (c : Dev nD) (p : Pg F α) (Q : α → sProp 𝕄) : sProp 𝕄 :=
  wp frame (wpE (defs₀ (F := F)) 𝒱₀ (c : Thread nD τ) none) Set.univ p Q

/-- A sequence of programs runs the first and then the second. -/
theorem WP_bind {α β : Type} (c : Dev nD) (p : Pg F α) (k : α → Pg F β) (Q : β → sProp 𝕄) :
    WP c (p >>= k) Q = WP c p (fun a => WP c (k a) Q) := wp_bind _ _ _ p k Q
/-- A program that only returns gives its value. -/
theorem WP_pure {α : Type} (c : Dev nD) (a : α) (Q : α → sProp 𝕄) : Q a ⊢ WP c (pure a) Q := le_wp_ret _ _ _ a Q

/-- Device `c` owes `O`, whatever it has waited on. -/
def Owe (c : Dev nD) (O : CellTallies nD τ sig Unit) : sProp 𝕄 := iprop(∃ W, owes (c : Thread nD τ) O W)

/-- A device's own transfer on the cell `s`, in flight: its wait will deliver `D`. -/
abbrev Fly (c : Dev nD) (s : DmaSem sig) (n : ℕ) (D : sProp 𝕄) : sProp 𝕄 := Flight EC (c : Thread nD τ) (.dma s) () n D

variable {c : Dev nD}

/-! ### A device's own transfers -/

section Own

variable {sp sp' : Space} {e : EltTy} {src : Memref sig .tc sp S256x4096 e} {dst : Memref sig .tc sp' S256x4096 e} {s : DmaSem sig}

/-- A transfer started: it will deliver the destination reading what the source reads, and the source back. -/
theorem wp_start {hs : src.view.WordExact} {hd : dst.view.WordExact} {ht : DmaTarget.Typed sp (.dma s) (DmaTarget.here dst : DmaTarget nD τ sig .tc sp' S256x4096 e)}
    {X : S256x4096.Idx → Elt F e} {Q : PUnit → sProp 𝕄} (n : ℕ) (hn : dst.view.dmaCredit = n) :
    iprop(Holds c src X ∗ Free c dst ∗ semVal ((c : Thread nD τ), .dma s) 0)
      ⊢ iprop((Fly c s n iprop(Holds c dst X ∗ Holds c src X) -∗ Q ⟨⟩) -∗ WP c (Prog.lift (.enqueueDma src (.here dst) (.dma s) hs hd ht)) Q) := by
  subst hn
  unfold Holds Free
  iintro ⟨⟨%fs, %hX, Hs⟩, ⟨%fd, Hd⟩, Hv⟩ Hk
  iapply (wp_dmaLocal EC 𝒱₀ (c : Thread nD τ) none (src := src) (dst := dst) (fs := fs) (fd := fd) (Sd := dst.view.set) (q := fullShare) ()
    dst.view.dmaCredit rfl (View.dmaCredit_pos _ (by decide)) Finset.Subset.rfl) $$ [Hs Hd Hv]
  · isplitl [Hs]; · iexact Hs
    isplitl [Hd] <;> iassumption
  iintro HF
  rw [wp_ret]
  imodintro
  iapply Hk
  iapply (Flight_mono EC (c : Thread nD τ) (D' := iprop((∃ f : Buf (Elt F) (dst.view.loc (c : Thread nD τ)), ⌜dst.view.read (Elt F) f = X⌝
      ∗ (dst.view.loc (c : Thread nD τ) ↦[dst.view.set]{fullShare} f))
      ∗ (∃ f : Buf (Elt F) (src.view.loc (c : Thread nD τ)), ⌜src.view.read (Elt F) f = X⌝ ∗ (src.view.loc (c : Thread nD τ) ↦[src.view.set]{fullShare} f)))) ?_) $$ HF
  iintro ⟨Hd, Hs⟩
  isplitl [Hd]
  · iexists _
    isplitr
    rotate_left
    · iexact Hd
    · ipureintro
      rw [View.read_write_univ]; exact hX
  · iexists fs
    isplitr; · ipureintro; exact hX
    iexact Hs

/-- A transfer waited for: what it delivers, and its semaphore at zero again. -/
theorem wp_finish {κ' : Kind} {sp₁ sp₂ : Space} {s₁ s₂ : Shape} {e₁ e₂ : EltTy} {a : Memref sig .tc sp₁ s₁ e₁} {b : Memref sig κ' sp₂ s₂ e₂}
    {ha : a.view.WordExact} {hb : b.view.WordExact} {n : ℕ} {D : sProp 𝕄} {O : CellTallies nD τ sig Unit} {Q : PUnit → sProp 𝕄}
    (hn : b.view.dmaCredit = n) :
    iprop(Fly c s n D ∗ Owe c O ∗ MayWait (c : Thread nD τ) (.dma s) () O)
      ⊢ iprop((iprop(D ∗ semVal ((c : Thread nD τ), .dma s) 0 ∗ Owe c O) -∗ Q ⟨⟩) -∗ WP c (Prog.lift (.waitDma2 s a b ha hb)) Q) := by
  unfold Owe
  iintro ⟨HF, ⟨%W, HO⟩, HM⟩ Hk
  iapply (wp_waitLocalO EC 𝒱₀ (c : Thread nD τ) none (sem := s) (srcw := a) (dstw := b) () hn) $$ [HF HO HM]
  · isplitl [HF]; · iexact HF
    isplitl [HO] <;> iassumption
  iintro ⟨HD, Hv, HO⟩
  rw [wp_ret]
  imodintro
  iapply Hk
  isplitl [HD]; · iexact HD
  isplitl [Hv]; · iexact Hv
  iexists _; iexact HO

end Own

/-! ### The rings -/

section Ring

variable {n : ℕ} {e : EltTy} {m : Memref sig .tc .vmem ⟨3, ![n, 256, 4096]⟩ e} {off : Fin 3 → ℕ}
  {inb : ∀ a, off a + S1x256x4096.size a ≤ (⟨3, ![n, 256, 4096]⟩ : Shape).size a}

/-- A slot read: the program goes on at a value which is, as a chunk, what the slot reads. -/
theorem wp_slot_load {h : ∀ a, (Rect.unit (s := ⟨3, ![n, 256, 4096]⟩) off S1x256x4096.size inb).stride a = 1} {hl}
    {X : Vec F S256x4096 e} {Q : Vec F S1x256x4096 e → sProp 𝕄} :
    (Holds c ((m.slice (Rect.unit (s := ⟨3, ![n, 256, 4096]⟩) off S1x256x4096.size inb) h).squeeze S256x4096 squeezes_S1x256x4096_S256x4096) X)
      ⊢ iprop((∀ v : Vec F S1x256x4096 e, ⌜shapeCast S256x4096 v shapeCasts_S1x256x4096_S256x4096 = X⌝
            -∗ Holds c ((m.slice (Rect.unit (s := ⟨3, ![n, 256, 4096]⟩) off S1x256x4096.size inb) h).squeeze S256x4096 squeezes_S1x256x4096_S256x4096) X -∗ Q v)
          -∗ WP c (Prog.lift (.load m (Rect.unit (s := ⟨3, ![n, 256, 4096]⟩) off S1x256x4096.size inb).toLoadRect hl)) Q) := by
  unfold Holds
  iintro ⟨%f, %hX, Hp⟩ Hk
  iapply (wp_load_rect 𝒱₀ (c : Thread nD τ) none Set.univ (m := m) (r := Rect.unit (s := ⟨3, ![n, 256, 4096]⟩) off S1x256x4096.size inb)
    (hl := hl) (f := f) (q := fullShare)
    (S := ((m.slice (Rect.unit (s := ⟨3, ![n, 256, 4096]⟩) off S1x256x4096.size inb) h).squeeze S256x4096 squeezes_S1x256x4096_S256x4096).view.set)
    (by rw [show ((m.slice (Rect.unit (s := ⟨3, ![n, 256, 4096]⟩) off S1x256x4096.size inb) h).squeeze S256x4096 squeezes_S1x256x4096_S256x4096).view.set
          = (m.access (Rect.unit (s := ⟨3, ![n, 256, 4096]⟩) off S1x256x4096.size inb)).set from View.set_reshape _ _])) $$ Hp
  iintro Hp
  rw [wp_ret]
  imodintro
  iapply Hk
  · ipureintro
    exact hX
  · iexists f
    isplitr; · ipureintro; exact hX
    iexact Hp

/-- A slot written with a chunk. -/
theorem wp_slot_store {h : ∀ a, (Rect.unit (s := ⟨3, ![n, 256, 4096]⟩) off S1x256x4096.size inb).stride a = 1} {hl hx hm}
    {X : Vec F S256x4096 e} {Q : PUnit → sProp 𝕄} :
    (Free c ((m.slice (Rect.unit (s := ⟨3, ![n, 256, 4096]⟩) off S1x256x4096.size inb) h).squeeze S256x4096 squeezes_S1x256x4096_S256x4096))
      ⊢ iprop((Holds c ((m.slice (Rect.unit (s := ⟨3, ![n, 256, 4096]⟩) off S1x256x4096.size inb) h).squeeze S256x4096 squeezes_S1x256x4096_S256x4096) X -∗ Q ⟨⟩)
          -∗ WP c (do
            let _ : Vec F S1x256x4096 e ← Prog.lift (.load m (Rect.unit (s := ⟨3, ![n, 256, 4096]⟩) off S1x256x4096.size inb).toLoadRect hl)
            Prog.lift (.store m (Rect.unit (s := ⟨3, ![n, 256, 4096]⟩) off S1x256x4096.size inb) (shapeCast S1x256x4096 X shapeCasts_S256x4096_S1x256x4096) Finset.univ hx hm)) Q) := by
  have hset : ((m.slice (Rect.unit (s := ⟨3, ![n, 256, 4096]⟩) off S1x256x4096.size inb) h).squeeze S256x4096 squeezes_S1x256x4096_S256x4096).view.set
      = (m.access (Rect.unit (s := ⟨3, ![n, 256, 4096]⟩) off S1x256x4096.size inb)).set := View.set_reshape _ _
  unfold Free Holds
  iintro ⟨%f, Hp⟩ Hk
  rw [hset]
  iapply (wp_load_rect 𝒱₀ (c : Thread nD τ) none Set.univ (m := m) (r := Rect.unit (s := ⟨3, ![n, 256, 4096]⟩) off S1x256x4096.size inb)
    (hl := hl) (f := f) (q := fullShare) (S := (m.access (Rect.unit (s := ⟨3, ![n, 256, 4096]⟩) off S1x256x4096.size inb)).set) Finset.Subset.rfl) $$ Hp
  iintro Hp
  iapply (wp_store 𝒱₀ (c : Thread nD τ) none Set.univ (m := m) (r := Rect.unit (s := ⟨3, ![n, 256, 4096]⟩) off S1x256x4096.size inb)
    (hx := hx) (hm := hm) (f := f) (w := shapeCast S1x256x4096 X shapeCasts_S256x4096_S1x256x4096) (Mk := Finset.univ)
    (S := (m.access (Rect.unit (s := ⟨3, ![n, 256, 4096]⟩) off S1x256x4096.size inb)).set) Finset.Subset.rfl) $$ Hp
  iintro Hp
  rw [wp_ret]
  imodintro
  iapply Hk
  iexists _
  isplitr
  rotate_left
  · iexact Hp
  · ipureintro
    refine Eq.trans (b := shapeCast S256x4096 ((m.access (Rect.unit (s := ⟨3, ![n, 256, 4096]⟩) off S1x256x4096.size inb)).read (Elt F)
      ((m.access (Rect.unit (s := ⟨3, ![n, 256, 4096]⟩) off S1x256x4096.size inb)).write (Elt F) f (shapeCast S1x256x4096 X shapeCasts_S256x4096_S1x256x4096) Finset.univ)) shapeCasts_S1x256x4096_S256x4096) rfl ?_
    rw [View.read_write_univ]
    exact shapeCast_shapeCast X _ _

end Ring

/-! ### The exchanges -/

section Exchange

variable (SX SY : Dev nD → Fin 8 → FVec F S256x4096 .bf16)

/-- A chunk sent to device `c'`: it pays the round `r` of the departure cell with the slot, and the arrival cell with
    the chunk; the wait for the departure is paid for. -/
theorem wp_post {c' : Dev nD} {sp sp' : Space} {src : Memref sig .tc sp S256x4096 .bf16} {dst : Memref sig .tc sp' S256x4096 .bf16} {s t : DmaSem sig}
    {hsc : dst.view.ref.isScScratch = false} {hs : src.view.WordExact} {hd : dst.view.WordExact}
    {ht : DmaTarget.Typed (nD := nD) sp (.dma t) (.remote (Dev.tc c') dst (.dma s) hsc)}
    {X : S256x4096.Idx → Elt F .bf16} {r κ₁ κ₂ : ℕ} {O₁ O : CellTallies nD τ sig Unit} {Q : PUnit → sProp 𝕄}
    (hN : dst.view.dmaCredit = N)
    (hd₁ : (Rd SX SY).duties ((c : Thread nD τ), .dma s) r = {true}) (hd₂ : (Rd SX SY).duties ((c' : Thread nD τ), .dma t) 0 = {true})
    (hp₁ : (Rd SX SY).payload ((c : Thread nD τ), .dma s) r true = Free c src) (hp₂ : (Rd SX SY).payload ((c' : Thread nD τ), .dma t) 0 true = Holds c' dst X)
    (hO : O₁ = O + tallyAt ((c' : Thread nD τ), .dma t) () N) :
    iprop(cellInv ER (Rd SX SY) κ₁ ((c : Thread nD τ), .dma s) ∗ cellInv ER (Rd SX SY) κ₂ ((c' : Thread nD τ), .dma t)
        ∗ Holds c src X ∗ Free c' dst ∗ Owe c O₁
        ∗ dutyTok ER ((c : Thread nD τ), .dma s) r true ∗ reached ER ((c : Thread nD τ), .dma s) r
        ∗ dutyTok ER ((c' : Thread nD τ), .dma t) 0 true ∗ reached ER ((c' : Thread nD τ), .dma t) 0)
      ⊢ iprop((iprop(cred (tallyAt ((c : Thread nD τ), .dma s) () N) ∗ Owe c O) -∗ Q ⟨⟩)
          -∗ WP c (Prog.lift (.enqueueDma src (.remote (Dev.tc c') dst (.dma s) hsc) (.dma t) hs hd ht)) Q) := by
  have hf₁ : ∀ fs : Buf (Elt F) (src.view.loc (c : Thread nD τ)),
      (src.view.loc (c : Thread nD τ) ↦[src.view.set]{fullShare} fs : sProp 𝕄) ⊢ (Rd SX SY).payload ((c : Thread nD τ), .dma s) r true := fun fs => by
    rw [hp₁]; exact (Holds.intro c src fs).trans (Holds.free c src _)
  have hf₂ : ∀ (fs : Buf (Elt F) (src.view.loc (c : Thread nD τ))) (fd : Buf (Elt F) (dst.view.loc (c' : Thread nD τ))), src.view.read (Elt F) fs = X →
      (dst.view.loc (c' : Thread nD τ) ↦[dst.view.set]{fullShare} (dst.view.write (Elt F) fd (src.view.read (Elt F) fs) Finset.univ) : sProp 𝕄)
        ⊢ (Rd SX SY).payload ((c' : Thread nD τ), .dma t) 0 true := fun fs fd hX => by
    rw [hp₂, ← hX]
    refine (Holds.intro c' dst _).trans (Entails.of_eq ?_)
    rw [View.read_write_univ]
  unfold Holds Free Owe
  iintro ⟨HI₁, HI₂, ⟨%fs, %hX, Hs⟩, ⟨%fd, Hd⟩, ⟨%W, HO⟩, Ht₁, Hr₁, Ht₂, Hr₂⟩ Hk
  iapply (wp_send_pointsTo 𝒱₀ ER (Rd SX SY) (c : Thread nD τ) none (c' := (c' : Thread nD τ)) (src := src) (dst := dst) (sS := .dma s) (sem := .dma t)
    (q := fullShare) (fs := fs) (fd := fd) (r₁ := r) (r₂ := 0) (d₁ := true) (d₂ := true) (κ₁ := κ₁) (κ₂ := κ₂)
    (by rw [hd₁]; exact Finset.mem_singleton_self _) (by rw [hd₂]; exact Finset.mem_singleton_self _) () () N hN
    (amount_dma SX SY c s r true) (amount_dma SX SY c' t 0 true) O hO (hf₁ fs) (hf₂ fs fd hX)) $$ [HI₁ HI₂ Hs Hd HO Ht₁ Hr₁ Ht₂ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂] <;> iassumption
  iintro ⟨Hc, HO⟩
  rw [wp_ret]
  imodintro
  iapply Hk
  isplitl [Hc]; · iexact Hc
  iexists _; iexact HO

/-- A round of one transfer waited for: what it hands over, the cell at its next round. -/
theorem wp_take {κ' : Kind} {sp₁ sp₂ : Space} {s₁ s₂ : Shape} {e₁ e₂ : EltTy} {a : Memref sig .tc sp₁ s₁ e₁} {b : Memref sig κ' sp₂ s₂ e₂}
    {ha : a.view.WordExact} {hb : b.view.WordExact} {s : DmaSem sig} {r κ : ℕ} {O : CellTallies nD τ sig Unit} {P : sProp 𝕄} {Q : PUnit → sProp 𝕄}
    (hN : b.view.dmaCredit = N) (hd : (Rd SX SY).duties ((c : Thread nD τ), .dma s) r = {true})
    (hp : (Rd SX SY).payload ((c : Thread nD τ), .dma s) r true = P) :
    iprop(cellInv ER (Rd SX SY) κ ((c : Thread nD τ), .dma s) ∗ cred (tallyAt ((c : Thread nD τ), .dma s) () N) ∗ Owe c O
        ∗ MayWait (c : Thread nD τ) (.dma s) () O ∗ atPos ER ((c : Thread nD τ), .dma s) r ∅ 0)
      ⊢ iprop((iprop(P ∗ atPos ER ((c : Thread nD τ), .dma s) (r + 1) ∅ 0 ∗ reached ER ((c : Thread nD τ), .dma s) (r + 1) ∗ Owe c O) -∗ Q ⟨⟩)
          -∗ WP c (Prog.lift (.waitDma2 s a b ha hb)) Q) := by
  unfold Owe
  iintro ⟨HI, Hc, ⟨%W, HO⟩, HM, Hp⟩ Hk
  iapply (wp_wait_rest_token 𝒱₀ ER (Rd SX SY) (c : Thread nD τ) none (κ := κ) (sm := .dma s) (k' := b.view.dmaCredit)
    (wpE_waitDma2_eq 𝒱₀ (c : Thread nD τ) none Set.univ) (Set.mem_univ _) () (O := O) (W := W) (R := r) (m := 0) (T := ∅)
    (by rw [hN, expect_one SX SY c s r hd, zero_add])) $$ [HI Hc HO HM Hp]
  · rw [hN]
    isplitl [HI]; · iexact HI
    isplitl [Hc]; · iexact Hc
    isplitl [HO]; · iexact HO
    isplitl [HM] <;> iassumption
  iintro ⟨HO, Hp, Hr, HP⟩
  rw [wp_ret]
  imodintro
  iapply Hk
  isplitl [HP]; · iapply (Entails.of_eq ((rest_one SX SY c s r hd).trans hp)) $$ HP
  isplitl [Hp]; · iexact Hp
  isplitl [Hr]; · iexact Hr
  iexists _; iexact HO

/-- A unit to a neighbour's rendezvous. -/
theorem wp_ring {c' : Dev nD} {d : Bool} {κ : ℕ} {O₁ O : CellTallies nD τ sig Unit} {Q : PUnit → sProp 𝕄}
    (hO : O₁ = O + tallyAt (barC c') () 1) :
    iprop(cellInv ER (Rd SX SY) κ (barC c') ∗ Owe c O₁ ∗ dutyTok ER (barC c') 0 d ∗ pay SX SY c' .bar d ∗ reached ER (barC c') 0)
      ⊢ iprop((Owe c O -∗ Q ⟨⟩) -∗ WP c (semSignalWord (c' : Dev nD) barrier0 1#32) Q) := by
  unfold Owe
  iintro ⟨HI, ⟨%W, HO⟩, Ht, HP, Hr⟩ Hk
  iapply (wp_signal 𝒱₀ ER (Rd SX SY) (c : Thread nD τ) none (dst := (c' : Thread nD τ)) (sem := barrier0) (r := 0) (d := d) (κ := κ) (k' := 1)
    (by rw [duties_bar]; cases d <;> decide) (amount_bar SX SY c' d) () O hO (W := W)) $$ [HI HO Ht HP Hr]
  · isplitl [HI]; · iexact HI
    isplitl [HO]; · iexact HO
    isplitl [Ht]; · iexact Ht
    isplitl [HP]; · iapply (Entails.of_eq (pay_bar SX SY c' d)) $$ HP
    iexact Hr
  iintro HO
  rw [wp_ret]
  imodintro
  iapply Hk
  iexists _; iexact HO

/-- The rendezvous: both neighbours' slots. -/
theorem wp_meet {κ : ℕ} {O : CellTallies nD τ sig Unit} {Q : PUnit → sProp 𝕄} :
    iprop(cellInv ER (Rd SX SY) κ (barC c) ∗ cred (tallyAt (barC c) () 2) ∗ Owe c O ∗ MayWait (c : Thread nD τ) (.reg barrier0) () O ∗ atPos ER (barC c) 0 ∅ 0)
      ⊢ iprop((iprop((barX c ∗ barY c) ∗ atPos ER (barC c) 1 ∅ 0 ∗ Owe c O) -∗ Q ⟨⟩) -∗ WP c (semWaitWord barrier0 2#32) Q) := by
  unfold Owe
  iintro ⟨HI, Hc, ⟨%W, HO⟩, HM, Hp⟩ Hk
  iapply (wp_wait_rest_token 𝒱₀ ER (Rd SX SY) (c : Thread nD τ) none (κ := κ) (sm := .reg barrier0) (k' := 2)
    (wpE_semWait_eq 𝒱₀ (c : Thread nD τ) none Set.univ) (Set.mem_univ _) () (O := O) (W := W) (R := 0) (m := 0) (T := ∅)
    (by rw [expect_bar])) $$ [HI Hc HO HM Hp]
  · isplitl [HI]; · iexact HI
    isplitl [Hc]; · iexact Hc
    isplitl [HO]; · iexact HO
    isplitl [HM] <;> iassumption
  iintro ⟨HO, Hp, -, HP⟩
  rw [wp_ret]
  imodintro
  iapply Hk
  isplitl [HP]; · iapply (Entails.of_eq (rest_bar SX SY c)) $$ HP
  isplitl [Hp]; · iexact Hp
  iexists _; iexact HO

end Exchange

end Cert.KernelIdeal.Rms

end
-- ==== Proof.Bundles.lean ====
/-
  What a device holds between two stages.

  What a device holds between stages is a few bundles, one for each
  pipeline: `XSt c k` with `k` chunks sent along `x`, `YSt c k` with `k` chunks normalised, `ZSt c k` with `k` of the
  neighbour's chunks stored, `OSt c n` with `n` stores into the result started. A stage moves its bundles on by one.
-/
module

public import proofs.«01_k».proof.Proof.Ops

@[expose] public section

set_option synthInstance.maxSize 4096

noncomputable section

namespace Cert.KernelIdeal.Rms

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ### What the chunks read -/

/-- The chunks the devices start from: of the partial sums, of the residual, and the scales. -/
structure Ins (F : FTy → Type) where
  P : Dev nD → Fin 8 → FVec F S256x4096 .f32
  R : Dev nD → Fin 8 → FVec F S256x4096 .f32
  G : Dev nD → Vec F S1x4096 .f32

/-- Chunk `k` as device `c` sends it along `x`. -/
def Ins.SX (I : Ins F) (c : Dev nD) (k : Fin 8) : FVec F S256x4096 .bf16 := roundBlk (I.P c k)
/-- Chunk `k` of device `c`'s rows of the result. -/
def Ins.O (I : Ins F) (c : Dev nD) (k : Fin 8) : FVec F S256x4096 .f32 := normBlk (sumBlk (I.P c k) (I.SX (xn c) k) (I.R c k)) (I.G c)
/-- Chunk `k` as device `c` sends it along `y`. -/
def Ins.SY (I : Ins F) (c : Dev nD) (k : Fin 8) : FVec F S256x4096 .bf16 := roundBlk (I.O c k)
/-- Chunk `k` of the neighbour's rows as device `c` stores it. -/
def Ins.Z (I : Ins F) (c : Dev nD) (k : Fin 8) : FVec F S256x4096 .f32 := extf .f32 (I.SY (yn c) k) bitsLt_bf16_f32

/-- What the `n`-th store into the result writes. -/
def Ins.W (I : Ins F) (c : Dev nD) (n : ℕ) : FVec F S256x4096 .f32 :=
  if n < 3 then I.O c ⟨n % 8, Nat.mod_lt _ (by decide)⟩
  else if n = 15 then I.Z c 7
  else if n % 2 = 1 then I.Z c ⟨((n - 3) / 2) % 8, Nat.mod_lt _ (by decide)⟩
  else if n = 14 then I.Z c 6
  else I.O c ⟨((n + 2) / 2) % 8, Nat.mod_lt _ (by decide)⟩

variable (I : Ins F) (κ : GSem nD τ sig → ℕ)

/-- The exchanges' schedule at these chunks. -/
abbrev RI : Schedule (GSem nD τ sig) Bool 𝕄 := Rd I.SX I.SY

/-! ### What every device knows -/

/-- The `j`-th of a device's cells of the exchanges. -/
def scC (c : Dev nD) (j : Fin 20) : GSem nD τ sig := ((c : Thread nD τ), .dma ⟨1 + j.val, by have := j.isLt; show _ < 30; omega⟩)

/-- One of many. -/
theorem pick {ι : Type} [DecidableEq ι] {s : Finset ι} {i : ι} (hi : i ∈ s) {Φ : ι → sProp 𝕄} : (bigSep s Φ : sProp 𝕄) ⊢ Φ i := bigSep_elim hi

/-- The levels, the cells' protocol, and that every rendezvous is open. -/
def Ctx : sProp 𝕄 :=
  iprop(levAts L lv
    ∗ (bigSep Finset.univ fun c : Dev nD => cellInv ER (RI I) (κ (barC c)) (barC c))
    ∗ (bigSep Finset.univ fun p : Dev nD × Fin 20 => cellInv ER (RI I) (κ (scC p.1 p.2)) (scC p.1 p.2))
    ∗ bigSep Finset.univ fun c : Dev nD => reached ER (barC c) 0)

instance Ctx_persistent : BI.Persistent (Ctx I κ : sProp 𝕄) := by unfold Ctx; infer_instance

/-- The shared facts include the semaphores' levels, -/
theorem ctx_lev : (Ctx I κ : sProp 𝕄) ⊢ levAts L lv := by unfold Ctx; iintro ⟨H, -⟩; iexact H
/-- the invariant of each device's rendezvous cell, -/
theorem ctx_bar (c : Dev nD) : (Ctx I κ : sProp 𝕄) ⊢ cellInv ER (RI I) (κ (barC c)) (barC c) := by
  unfold Ctx; iintro ⟨-, H, -⟩; iapply (pick (Finset.mem_univ c) (Φ := fun c : Dev nD => cellInv ER (RI I) (κ (barC c)) (barC c))) $$ H
/-- that its first round is open, -/
theorem ctx_open (c : Dev nD) : (Ctx I κ : sProp 𝕄) ⊢ reached ER (barC c) 0 := by
  unfold Ctx; iintro ⟨-, -, -, H⟩; iapply (pick (Finset.mem_univ c) (Φ := fun c : Dev nD => reached ER (barC c) 0)) $$ H
/-- and the invariant of each exchange cell. -/
theorem ctx_sc (c : Dev nD) (j : Fin 20) : (Ctx I κ : sProp 𝕄) ⊢ cellInv ER (RI I) (κ (scC c j)) (scC c j) := by
  unfold Ctx; iintro ⟨-, -, H, -⟩; iapply (pick (Finset.mem_univ (c, j)) (Φ := fun p : Dev nD × Fin 20 => cellInv ER (RI I) (κ (scC p.1 p.2)) (scC p.1 p.2))) $$ H

/-- The exchange cells by number: first the departures along `x`, -/
theorem scC_xs (c : Dev nD) (i : Fin 2) : scC c ⟨i.val, by omega⟩ = xsC c i := rfl
/-- then the arrivals along `x`, -/
theorem scC_xr (c : Dev nD) (k : Fin 8) : scC c ⟨2 + k.val, by omega⟩ = xrC c k := by
  unfold scC; exact congrArg (fun s => ((c : Thread nD τ), SemLoc.dma s)) (Fin.ext (by show 1 + (2 + k.val) = 3 + k.val; omega))
/-- then the departures along `y`, -/
theorem scC_ys (c : Dev nD) (i : Fin 2) : scC c ⟨10 + i.val, by omega⟩ = ysC c i := by
  unfold scC; exact congrArg (fun s => ((c : Thread nD τ), SemLoc.dma s)) (Fin.ext (by show 1 + (10 + i.val) = 11 + i.val; omega))
/-- then the arrivals along `y`. -/
theorem scC_yr (c : Dev nD) (k : Fin 8) : scC c ⟨12 + k.val, by omega⟩ = yrC c k := by
  unfold scC; exact congrArg (fun s => ((c : Thread nD τ), SemLoc.dma s)) (Fin.ext (by show 1 + (12 + k.val) = 13 + k.val; omega))

/-- The invariant of a departure cell along `x`. -/
theorem ctx_xs (c : Dev nD) (i : Fin 2) : (Ctx I κ : sProp 𝕄) ⊢ cellInv ER (RI I) (κ (xsC c i)) (xsC c i) := ctx_sc I κ c ⟨i.val, by omega⟩
/-- The invariant of an arrival cell along `x`. -/
theorem ctx_xr (c : Dev nD) (k : Fin 8) : (Ctx I κ : sProp 𝕄) ⊢ cellInv ER (RI I) (κ (xrC c k)) (xrC c k) := by
  rw [← scC_xr c k]; exact ctx_sc I κ c _
/-- The invariant of a departure cell along `y`. -/
theorem ctx_ys (c : Dev nD) (i : Fin 2) : (Ctx I κ : sProp 𝕄) ⊢ cellInv ER (RI I) (κ (ysC c i)) (ysC c i) := by
  rw [← scC_ys c i]; exact ctx_sc I κ c _
/-- The invariant of an arrival cell along `y`. -/
theorem ctx_yr (c : Dev nD) (k : Fin 8) : (Ctx I κ : sProp 𝕄) ⊢ cellInv ER (RI I) (κ (yrC c k)) (yrC c k) := by
  rw [← scC_yr c k]; exact ctx_sc I κ c _

/-! ### Lists of chunks to come and of chunks done -/

/-- `f` of the chunks from `n` on. -/
def Todo {m : ℕ} (f : Fin m → sProp 𝕄) (n : ℕ) : sProp 𝕄 := bigSep ((Finset.univ : Finset (Fin m)).filter fun k => n ≤ k.val) f
/-- `f` of the chunks before `n`. -/
def Done {m : ℕ} (f : Fin m → sProp 𝕄) (n : ℕ) : sProp 𝕄 := bigSep ((Finset.univ : Finset (Fin m)).filter fun k => k.val < n) f

section Lists

variable {m : ℕ}

/-- What is left from `k` on is the piece at `k` and what is left after it. -/
theorem Todo_step (f : Fin m → sProp 𝕄) (k : Fin m) : Todo f k.val = iprop(f k ∗ Todo f (k.val + 1)) := by
  unfold Todo
  rw [show (Finset.univ : Finset (Fin m)).filter (fun j => k.val ≤ j.val) = insert k ((Finset.univ : Finset (Fin m)).filter fun j => k.val + 1 ≤ j.val) from by
    ext j; simp only [Finset.mem_filter, Finset.mem_univ, true_and, Finset.mem_insert, Fin.ext_iff]; omega,
    bigSep_insert (by simp)]; rfl
/-- What is done through `k` is the piece at `k` and what was done before it. -/
theorem Done_step (f : Fin m → sProp 𝕄) (k : Fin m) : Done f (k.val + 1) = iprop(f k ∗ Done f k.val) := by
  unfold Done
  rw [show (Finset.univ : Finset (Fin m)).filter (fun j => j.val < k.val + 1) = insert k ((Finset.univ : Finset (Fin m)).filter fun j => j.val < k.val) from by
    ext j; simp only [Finset.mem_filter, Finset.mem_univ, true_and, Finset.mem_insert, Fin.ext_iff]; omega,
    bigSep_insert (by simp)]; rfl
/-- At the start everything is left. -/
theorem Todo_zero (f : Fin m → sProp 𝕄) : Todo f 0 = bigSep Finset.univ f := by
  unfold Todo; rw [Finset.filter_true_of_mem fun _ _ => Nat.zero_le _]
/-- At the end nothing is left. -/
theorem Todo_over (f : Fin m → sProp 𝕄) (n : ℕ) (hn : m ≤ n) : Todo f n = iprop(emp) := by
  unfold Todo; rw [Finset.filter_false_of_mem fun k _ => by omega, bigSep_empty]; rfl
/-- At the start nothing is done. -/
theorem Done_zero (f : Fin m → sProp 𝕄) : Done f 0 = iprop(emp) := by
  unfold Done; rw [Finset.filter_false_of_mem fun k _ => by omega, bigSep_empty]; rfl
/-- At the end everything is done. -/
theorem Done_all (f : Fin m → sProp 𝕄) (n : ℕ) (hn : m ≤ n) : Done f n = bigSep Finset.univ f := by
  unfold Done; rw [Finset.filter_true_of_mem fun k _ => by omega]

end Lists

variable (c : Dev nD)

/-! ### The bundles -/

/-- Chunk `k` of the partial sums on its way into its slot. -/
def PFly (k : Fin 8) : sProp 𝕄 :=
  Fly c (pS (s3 k)) NF iprop(Holds c (vPc (s3 k)) (I.P c k) ∗ Holds c (vPart c k) (I.P c k))
/-- Slot `n` of that ring free. -/
def PFree (n : ℕ) : sProp 𝕄 := iprop(Free c (vPc (s3 n)) ∗ semVal ((c : Thread nD τ), .dma (pS (s3 n))) 0)
/-- Chunk `k` in its slot. -/
def PFull (k : Fin 8) : sProp 𝕄 := iprop(Holds c (vPc (s3 k)) (I.P c k) ∗ semVal ((c : Thread nD τ), .dma (pS (s3 k))) 0)
/-- Chunk number `n` on its way, or its slot free where there is none. -/
def PAt (n : ℕ) : sProp 𝕄 := if h : n < 8 then PFly I c ⟨n, h⟩ else PFree c n

/-- The same of the residual. -/
def RFly (k : Fin 8) : sProp 𝕄 :=
  Fly c (rS (s2 k)) NF iprop(Holds c (vRc (s2 k)) (I.R c k) ∗ Holds c (vRes c k) (I.R c k))
def RFree (n : ℕ) : sProp 𝕄 := iprop(Free c (vRc (s2 n)) ∗ semVal ((c : Thread nD τ), .dma (rS (s2 n))) 0)
def RAt (n : ℕ) : sProp 𝕄 := if h : n < 8 then RFly I c ⟨n, h⟩ else RFree c n

/-- The slot of the `n`-th send along `x`, before it is used: free, or its last departure paid for. -/
def XSlot (n : ℕ) : sProp 𝕄 :=
  if n < 2 then iprop(Free c (vXs (s2 n)) ∗ atPos ER (xsC c (s2 n)) 0 ∅ 0 ∗ reached ER (xsC c (s2 n)) 0)
  else iprop(cred (tallyAt (xsC c (s2 n)) () N) ∗ atPos ER (xsC c (s2 n)) (n / 2 - 1) ∅ 0)
/-- The same along `y`. -/
def YSlot (n : ℕ) : sProp 𝕄 :=
  if n < 2 then iprop(Free c (vYs (s2 n)) ∗ atPos ER (ysC c (s2 n)) 0 ∅ 0 ∗ reached ER (ysC c (s2 n)) 0)
  else iprop(cred (tallyAt (ysC c (s2 n)) () N) ∗ atPos ER (ysC c (s2 n)) (n / 2 - 1) ∅ 0)
/-- The slot of the `n`-th store into the result: free, or its last store on its way. -/
def OSlot (n : ℕ) : sProp 𝕄 :=
  if n < 3 then iprop(Free c (vOc (s3 n)) ∗ semVal ((c : Thread nD τ), .dma (oS (s3 n))) 0)
  else Fly c (oS (s3 n)) NF iprop(Holds c (outDst c (n - 3)) (I.W c (n - 3)) ∗ Free c (vOc (s3 n)))

/-- What sending chunk `k` along `x` uses up: the chunks loaded meanwhile, the two duties, the neighbour's slot. -/
def XNeed (k : Fin 8) : sProp 𝕄 :=
  iprop(dutyTok ER (xsC c (s2 k)) (k.val / 2) true ∗ dutyTok ER (xrC (xn c) k) 0 true ∗ Free (xn c) (vXr k) ∗ reached ER (xrC (xn c) k) 0)
def YNeed (k : Fin 8) : sProp 𝕄 :=
  iprop((dutyTok ER (ysC c (s2 k)) (k.val / 2) true ∗ dutyTok ER (yrC (yn c) k) 0 true ∗ Free (yn c) (vYr k) ∗ reached ER (yrC (yn c) k) 0)
    ∗ cred (tallyAt (xrC c k) () N) ∗ atPos ER (xrC c k) 0 ∅ 0)
def YHave (k : Fin 8) : sProp 𝕄 := iprop(Holds c (vRes c k) (I.R c k) ∗ Free c (vXr k) ∗ atPos ER (xrC c k) 1 ∅ 0)
def ZNeed (k : Fin 8) : sProp 𝕄 := iprop(cred (tallyAt (yrC c k) () N) ∗ atPos ER (yrC c k) 0 ∅ 0)
def ZHave (k : Fin 8) : sProp 𝕄 := iprop(Free c (vYr k) ∗ atPos ER (yrC c k) 1 ∅ 0)

/-- `k` chunks sent along `x`. -/
def XSt (k : ℕ) : sProp 𝕄 :=
  iprop(PAt I c k ∗ XSlot c k ∗ XSlot c (k + 1) ∗ Todo (XNeed c) k ∗ Todo (fun j => Holds c (vPart c j) (I.P c j)) (k + 1)
    ∗ Done (fun j => Holds c (vPart c j) (I.P c j)) k)
/-- `k` chunks normalised. -/
def YSt (k : ℕ) : sProp 𝕄 :=
  iprop((RAt I c k ∗ RFree c (k + 1)) ∗ YSlot c k ∗ YSlot c (k + 1) ∗ Todo (YNeed c) k ∗ Todo (fun j => Holds c (vRes c j) (I.R c j)) (k + 1)
    ∗ Done (YHave I c) k ∗ owns (c : Thread nD τ) mGam fullShare (I.G c))
/-- `k` of the neighbour's chunks stored. -/
def ZSt (k : ℕ) : sProp 𝕄 :=
  iprop((Free c vYc ∗ semVal ((c : Thread nD τ), .dma yS) 0) ∗ Todo (ZNeed c) k ∗ Done (ZHave c) k)
/-- `n` stores into the result started. -/
def OSt (n : ℕ) : sProp 𝕄 :=
  iprop(OSlot I c n ∗ OSlot I c (n + 1) ∗ OSlot I c (n + 2) ∗ Todo (fun m : Fin 16 => Free c (outDst c m)) n
    ∗ Done (fun m : Fin 16 => Holds c (outDst c m) (I.W c m)) (n - 3))

end Cert.KernelIdeal.Rms

end
-- ==== Proof.Stages.lean ====
/-
  The stages.

  Each stage is shown once, for a chunk number: it moves its bundles on by one chunk.
-/
module

public import proofs.«01_k».proof.Proof.Bundles

@[expose] public section

set_option synthInstance.maxSize 4096

noncomputable section

namespace Cert.KernelIdeal.Rms

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Ins F) (κ : GSem nD τ sig → ℕ) {c : Dev nD}

/-! ### The pieces of a stage -/

/-- The chunk two before has the same slot in a ring of two. -/
theorem s2_prev (k : Fin 8) (h : 2 ≤ k.val) : s2 (prev2 k).val = s2 k.val := Fin.ext (by show (k.val - 2) % 2 = k.val % 2; omega)
/-- A ring of two comes back after two, -/
theorem s2_add (n : ℕ) : s2 (n + 2) = s2 n := Fin.ext (by show (n + 2) % 2 = n % 2; omega)
/-- a ring of three after three. -/
theorem s3_add (n : ℕ) : s3 (n + 3) = s3 n := Fin.ext (by show (n + 3) % 3 = n % 3; omega)

/-- The slot of a send along `x`, made free. -/
theorem wp_xReady (k : Fin 8) (kx ky : ℕ) (hx : 0 < 2 + 2 * kx) {Q : PUnit → sProp 𝕄} :
    iprop(Ctx I κ ∗ XSlot c k.val ∗ Owe c (owed c kx ky))
      ⊢ iprop((iprop(Free c (vXs (s2 k)) ∗ atPos ER (xsC c (s2 k)) (k.val / 2) ∅ 0 ∗ reached ER (xsC c (s2 k)) (k.val / 2) ∗ Owe c (owed c kx ky)) -∗ Q ⟨⟩)
          -∗ WP c (xReady k) Q) := by
  unfold xReady
  unfold XSlot
  by_cases h : 2 ≤ k.val
  · rw [if_pos h, if_neg (by omega)]
    unfold xWaitSend
    iintro ⟨#HC, ⟨Hc, Hp⟩, HO⟩ Hk
    ihave #HI := (ctx_xs I κ c (s2 k)) $$ HC
    ihave #HL := (ctx_lev I κ) $$ HC
    iapply (wp_take I.SX I.SY (a := vXr (prev2 k)) (b := vXs (s2 (prev2 k).val)) (κ := κ (xsC c (s2 k))) (s := xsS (s2 (prev2 k).val)) (r := k.val / 2 - 1) (P := Free c (vXs (s2 k))) (O := owed c kx ky)
      rfl (by rw [s2_prev k h]; exact duties_xs I.SX I.SY c _ _ (by omega)) (by rw [s2_prev k h]; exact payload_xs I.SX I.SY c _ _ _)) $$ [Hc Hp HO]
    · rw [s2_prev k h]
      isplitr; · iexact HI
      isplitl [Hc]; · iexact Hc
      isplitl [HO]; · iexact HO
      isplitr
      · iapply (mayWait c _ kx ky (by rw [use_xs]; exact hx) (by rw [use_xs]; exact Nat.add_pos_left (by decide) _)) $$ HL
      iexact Hp
    rw [s2_prev k h, show k.val / 2 - 1 + 1 = k.val / 2 from by omega]
    iexact Hk
  · rw [if_neg h, if_pos (by omega), show k.val / 2 = 0 from by omega]
    iintro ⟨#HC, ⟨HF, Hp, Hr⟩, HO⟩ Hk
    iapply (WP_pure c PUnit.unit Q)
    iapply Hk
    isplitl [HF]; · iexact HF
    isplitl [Hp]; · iexact Hp
    isplitl [Hr] <;> iassumption

/-- The slot of a send along `y`, made free. -/
theorem wp_yReady (k : Fin 8) (kx ky : ℕ) {Q : PUnit → sProp 𝕄} :
    iprop(Ctx I κ ∗ YSlot c k.val ∗ Owe c (owed c kx ky))
      ⊢ iprop((iprop(Free c (vYs (s2 k)) ∗ atPos ER (ysC c (s2 k)) (k.val / 2) ∅ 0 ∗ reached ER (ysC c (s2 k)) (k.val / 2) ∗ Owe c (owed c kx ky)) -∗ Q ⟨⟩)
          -∗ WP c (yReady k) Q) := by
  unfold yReady
  unfold YSlot
  by_cases h : 2 ≤ k.val
  · rw [if_pos h, if_neg (by omega)]
    unfold yWaitSend
    iintro ⟨#HC, ⟨Hc, Hp⟩, HO⟩ Hk
    ihave #HI := (ctx_ys I κ c (s2 k)) $$ HC
    ihave #HL := (ctx_lev I κ) $$ HC
    iapply (wp_take I.SX I.SY (a := vYr (prev2 k)) (b := vYs (s2 (prev2 k).val)) (κ := κ (ysC c (s2 k))) (s := ysS (s2 (prev2 k).val)) (r := k.val / 2 - 1) (P := Free c (vYs (s2 k))) (O := owed c kx ky)
      rfl (by rw [s2_prev k h]; exact duties_ys I.SX I.SY c _ _ (by omega)) (by rw [s2_prev k h]; exact payload_ys I.SX I.SY c _ _ _)) $$ [Hc Hp HO]
    · rw [s2_prev k h]
      isplitr; · iexact HI
      isplitl [Hc]; · iexact Hc
      isplitl [HO]; · iexact HO
      isplitr
      · iapply (mayWait c _ kx ky (by rw [use_ys]; exact Nat.add_pos_left (by decide) _) (by rw [use_ys]; exact Nat.add_pos_left (by decide) _)) $$ HL
      iexact Hp
    rw [s2_prev k h, show k.val / 2 - 1 + 1 = k.val / 2 from by omega]
    iexact Hk
  · rw [if_neg h, if_pos (by omega), show k.val / 2 = 0 from by omega]
    iintro ⟨#HC, ⟨HF, Hp, Hr⟩, HO⟩ Hk
    iapply (WP_pure c PUnit.unit Q)
    iapply Hk
    isplitl [HF]; · iexact HF
    isplitl [Hp]; · iexact Hp
    isplitl [Hr] <;> iassumption

/-- The next chunk of the partial sums set on its way, if there is one. -/
theorem wp_pNext (k : Fin 8) {Q : PUnit → sProp 𝕄} :
    iprop(PFree c (k.val + 1) ∗ Todo (fun j => Holds c (vPart c j) (I.P c j)) (k.val + 1))
      ⊢ iprop((iprop(PAt I c (k.val + 1) ∗ Todo (fun j => Holds c (vPart c j) (I.P c j)) (k.val + 2)) -∗ Q ⟨⟩)
          -∗ WP c (pNext c k) Q) := by
  unfold pNext
  by_cases h : k.val < 7
  · have hk8 : k.val + 1 < 8 := by omega
    have hk : next k = ⟨k.val + 1, hk8⟩ := Fin.ext (Nat.mod_eq_of_lt hk8)
    rw [if_pos h, hk, Todo_step _ (⟨k.val + 1, hk8⟩ : Fin 8)]
    unfold PAt
    rw [dif_pos (show k.val + 1 < 8 by omega)]
    unfold PFree PFly ploadStart
    iintro ⟨⟨HF, Hv⟩, ⟨HP, HT⟩⟩ Hk
    iapply (wp_start (src := vPart c ⟨k.val + 1, hk8⟩) (dst := vPc (s3 (k.val + 1))) (X := I.P c ⟨k.val + 1, hk8⟩) NF rfl) $$ [HF Hv HP]
    · isplitl [HP]; · iexact HP
      isplitl [HF] <;> iassumption
    iintro HF
    iapply Hk
    isplitl [HF]; · iexact HF
    iexact HT
  · rw [if_neg h]
    unfold PAt
    rw [dif_neg (show ¬ k.val + 1 < 8 by omega), Todo_over _ (k.val + 1) (show 8 ≤ k.val + 1 by omega), Todo_over _ (k.val + 2) (show 8 ≤ k.val + 2 by omega)]
    iintro ⟨HF, HT⟩ Hk
    iapply (WP_pure c PUnit.unit Q)
    iapply Hk
    isplitl [HF]; · iexact HF
    iexact HT

/-- The next chunk of the residual set on its way, if there is one. -/
theorem wp_rNext (k : Fin 8) {Q : PUnit → sProp 𝕄} :
    iprop(RFree c (k.val + 1) ∗ Todo (fun j => Holds c (vRes c j) (I.R c j)) (k.val + 1))
      ⊢ iprop((iprop(RAt I c (k.val + 1) ∗ Todo (fun j => Holds c (vRes c j) (I.R c j)) (k.val + 2)) -∗ Q ⟨⟩)
          -∗ WP c (rNext c k) Q) := by
  unfold rNext
  by_cases h : k.val < 7
  · have hk8 : k.val + 1 < 8 := by omega
    have hk : next k = ⟨k.val + 1, hk8⟩ := Fin.ext (Nat.mod_eq_of_lt hk8)
    rw [if_pos h, hk, Todo_step _ (⟨k.val + 1, hk8⟩ : Fin 8)]
    unfold RAt
    rw [dif_pos (show k.val + 1 < 8 by omega)]
    unfold RFree RFly rloadStart
    iintro ⟨⟨HF, Hv⟩, ⟨HP, HT⟩⟩ Hk
    iapply (wp_start (src := vRes c ⟨k.val + 1, hk8⟩) (dst := vRc (s2 (k.val + 1))) (X := I.R c ⟨k.val + 1, hk8⟩) NF rfl) $$ [HF Hv HP]
    · isplitl [HP]; · iexact HP
      isplitl [HF] <;> iassumption
    iintro HF
    iapply Hk
    isplitl [HF]; · iexact HF
    iexact HT
  · rw [if_neg h]
    unfold RAt
    rw [dif_neg (show ¬ k.val + 1 < 8 by omega), Todo_over _ (k.val + 1) (show 8 ≤ k.val + 1 by omega), Todo_over _ (k.val + 2) (show 8 ≤ k.val + 2 by omega)]
    iintro ⟨HF, HT⟩ Hk
    iapply (WP_pure c PUnit.unit Q)
    iapply Hk
    isplitl [HF]; · iexact HF
    iexact HT

/-! ### Stage X -/

/-- Stage X of chunk `k`. -/
theorem wp_stageX (k : Fin 8) (ky : ℕ) {Q : PUnit → sProp 𝕄} :
    iprop(Ctx I κ ∗ XSt I c k.val ∗ PFree c (k.val + 1) ∗ Owe c (owed c k.val ky))
      ⊢ iprop((iprop(XSt I c (k.val + 1) ∗ PFull I c k ∗ Owe c (owed c (k.val + 1) ky)) -∗ Q ⟨⟩) -∗ WP c (stageX c k) Q) := by
  unfold XSt stageX
  rw [Todo_step (XNeed c) k, Done_step _ k, show PAt I c k.val = PFly I c k from dif_pos k.isLt]
  iintro ⟨#HC, ⟨HP, HS, HS', ⟨HN, HT⟩, HT', HD⟩, HF, HO⟩ Hk
  ihave #HL := (ctx_lev I κ) $$ HC
  unfold PFly
  rw [WP_bind]
  unfold ploadWait
  iapply (wp_finish (a := vPart c k) (b := vPc (s3 k)) (n := NF) (O := owed c k.val ky) rfl) $$ [HP HO]
  · isplitl [HP]; · iexact HP
    isplitl [HO]; · iexact HO
    iapply (mayWait c _ k.val ky (by rw [use_p]; exact Nat.add_pos_left (by decide) _) (by rw [use_p]; exact Nat.add_pos_left (by decide) _)) $$ HL
  iintro ⟨⟨HP, HV⟩, Hv, HO⟩
  rw [WP_bind]
  iapply (wp_xReady I κ k k.val ky (by omega)) $$ [HS HO]
  · isplitr; · iexact HC
    isplitl [HS] <;> iassumption
  iintro ⟨HX, Hp, #Hr, HO⟩
  rw [WP_bind]
  unfold readP
  iapply (wp_slot_load (X := I.P c k)) $$ HP
  iintro %v %hv HP
  rw [WP_bind]
  unfold writeXs
  rw [show toSlot (roundBlk (unslot v)) = shapeCast S1x256x4096 (I.SX c k) shapeCasts_S256x4096_S1x256x4096 from
    congrArg (fun x => shapeCast S1x256x4096 (roundBlk x) shapeCasts_S256x4096_S1x256x4096) hv]
  iapply (wp_slot_store (X := I.SX c k)) $$ HX
  iintro HX
  rw [WP_bind, xdev_eq]
  unfold xStart XNeed
  icases HN with ⟨Ht, Ht', HF', #Hr'⟩
  ihave #HI := (ctx_xs I κ c (s2 k)) $$ HC
  ihave #HI' := (ctx_xr I κ (xn c) k) $$ HC
  iapply (wp_post I.SX I.SY (src := vXs (s2 k)) (dst := vXr k) (s := xsS (s2 k)) (t := xrS k) (X := I.SX c k) (r := k.val / 2) (κ₁ := κ (xsC c (s2 k))) (κ₂ := κ (xrC (xn c) k)) (O := owed c (k.val + 1) ky) rfl
    (duties_xs I.SX I.SY c _ _ (by omega)) (duties_xr I.SX I.SY (xn c) k) (payload_xs I.SX I.SY c _ _ _)
    (by rw [payload_xr, xn_xn]) (owed_x c k ky)) $$ [HX HF' HO Ht Ht']
  · isplitr; · iexact HI
    isplitr; · iexact HI'
    isplitl [HX]; · iexact HX
    isplitl [HF']; · iexact HF'
    isplitl [HO]; · iexact HO
    isplitl [Ht]; · iexact Ht
    isplitr; · iexact Hr
    isplitl [Ht']; · iexact Ht'
    iexact Hr'
  iintro ⟨Hc, HO⟩
  iapply (wp_pNext I k) $$ [HF HT']
  · isplitl [HF] <;> iassumption
  iintro ⟨HA, HT'⟩
  iapply Hk
  isplitl [HA HS' Hc Hp HT HT' HD HV]
  · isplitl [HA]; · iexact HA
    isplitl [HS']; · iexact HS'
    isplitl [Hc Hp]
    · unfold XSlot
      rw [if_neg (by omega), s2_add, show (k.val + 1 + 1) / 2 - 1 = k.val / 2 from by omega]
      isplitl [Hc] <;> iassumption
    isplitl [HT]; · iexact HT
    isplitl [HT']; · iexact HT'
    isplitl [HV] <;> iassumption
  isplitl [HP Hv]
  · unfold PFull
    isplitl [HP] <;> iassumption
  iexact HO

/-! ### A store into the result -/

/-- The `n`-th store into the result. -/
theorem wp_outStore (n : Fin 16) (kx ky : ℕ) (v : FVec F S256x4096 .f32) (hv : v = I.W c n.val) {Q : PUnit → sProp 𝕄} :
    iprop(Ctx I κ ∗ OSt I c n.val ∗ Owe c (owed c kx ky))
      ⊢ iprop((iprop(OSt I c (n.val + 1) ∗ Owe c (owed c kx ky)) -∗ Q ⟨⟩) -∗ WP c (store c n.val v) Q) := by
  subst hv
  unfold OSt
  rw [Todo_step _ n]
  have hrest : iprop(Free c (vOc (s3 n)) ∗ semVal ((c : Thread nD τ), .dma (oS (s3 n))) 0 ∗ Free c (outDst c n))
      ⊢ iprop((iprop(Fly c (oS (s3 n)) NF iprop(Holds c (outDst c n) (I.W c n) ∗ Free c (vOc (s3 n)))) -∗ Q ⟨⟩)
          -∗ WP c (do writeOc (s3 n) (toSlot (I.W c n)); ostoreStart c n) Q) := by
    iintro ⟨HX, Hv, HF⟩ Hk
    rw [WP_bind]
    unfold writeOc
    iapply (wp_slot_store (X := I.W c n)) $$ HX
    iintro HX
    unfold ostoreStart
    iapply (wp_start (src := vOc (s3 n)) (dst := outDst c n) (X := I.W c n) NF (by unfold outDst; split_ifs <;> rfl)) $$ [HX Hv HF]
    · isplitl [HX]; · iexact HX
      isplitl [HF] <;> iassumption
    iintro HY
    iapply Hk
    iapply (Flight_mono EC (c : Thread nD τ) (D' := iprop(Holds c (outDst c n) (I.W c n) ∗ Free c (vOc (s3 n)))) (sep_mono_right (Holds.free c _ _))) $$ HY
  unfold store oReady
  rw [WP_bind]
  by_cases h : 3 ≤ n.val
  · rw [if_pos h]
    unfold OSlot
    rw [if_neg (show ¬ n.val < 3 by omega), if_neg (show ¬ n.val + 1 < 3 by omega), if_neg (show ¬ n.val + 2 < 3 by omega),
      if_neg (show ¬ n.val + 1 + 2 < 3 by omega)]
    have h3 : s3 (n.val - 3) = s3 n.val := Fin.ext (by show (n.val - 3) % 3 = n.val % 3; omega)
    have hwait : ∀ {D : sProp 𝕄} {Q : PUnit → sProp 𝕄}, iprop(Fly c (oS (s3 (n.val - 3))) NF D ∗ Owe c (owed c kx ky) ∗ levAts L lv)
        ⊢ iprop((iprop(D ∗ semVal ((c : Thread nD τ), .dma (oS (s3 (n.val - 3)))) 0 ∗ Owe c (owed c kx ky)) -∗ Q ⟨⟩) -∗ WP c (ostoreWait c (n.val - 3)) Q) := by
      intro D Q
      unfold ostoreWait
      iintro ⟨HS, HO, #HL⟩
      iapply (wp_finish (a := vOc (s3 (n.val - 3))) (b := outDst c (n.val - 3)) (n := NF) (O := owed c kx ky) (by unfold outDst; split_ifs <;> rfl)) $$ [HS HO]
      isplitl [HS]; · iexact HS
      isplitl [HO]; · iexact HO
      iapply (mayWait c _ kx ky (by rw [use_o]; exact Nat.add_pos_left (by decide) _) (by rw [use_o]; exact Nat.add_pos_left (by decide) _)) $$ HL
    rw [h3] at hwait
    iintro ⟨#HC, ⟨HS, HS', HS'', ⟨HF, HT⟩, HD⟩, HO⟩ Hk
    ihave #HL := (ctx_lev I κ) $$ HC
    iapply hwait $$ [HS HO]
    · isplitl [HS]; · iexact HS
      isplitl [HO]; · iexact HO
      iexact HL
    iintro ⟨⟨HW, HX⟩, Hv, HO⟩
    iapply hrest $$ [HX Hv HF]
    · isplitl [HX]; · iexact HX
      isplitl [Hv] <;> iassumption
    iintro HY
    iapply Hk
    isplitr [HO]
    · isplitl [HS']; · iexact HS'
      isplitl [HS'']; · iexact HS''
      isplitl [HY]
      · rw [show n.val + 1 + 2 = n.val + 3 from rfl, s3_add, show n.val + 3 - 3 = n.val from rfl]; iexact HY
      isplitl [HT]; · iexact HT
      rw [show n.val + 1 - 3 = n.val - 3 + 1 from by omega, Done_step _ (⟨n.val - 3, by omega⟩ : Fin 16)]
      isplitl [HW] <;> iassumption
    iexact HO
  · rw [if_neg h]
    unfold OSlot
    rw [if_pos (show n.val < 3 by omega), if_neg (show ¬ n.val + 1 + 2 < 3 by omega), show n.val - 3 = 0 from by omega, show n.val + 1 - 3 = 0 from by omega]
    iintro ⟨#HC, ⟨⟨HX, Hv⟩, HS', HS'', ⟨HF, HT⟩, HD⟩, HO⟩ Hk
    iapply (WP_pure c PUnit.unit _)
    iapply hrest $$ [HX Hv HF]
    · isplitl [HX]; · iexact HX
      isplitl [Hv] <;> iassumption
    iintro HY
    iapply Hk
    isplitr [HO]
    · isplitl [HS']; · iexact HS'
      isplitl [HS'']; · iexact HS''
      isplitl [HY]
      · rw [show n.val + 1 + 2 = n.val + 3 from rfl, s3_add, show n.val + 3 - 3 = n.val from rfl]; iexact HY
      isplitl [HT]; · iexact HT
      iexact HD
    iexact HO

/-! ### Stage Y -/

/-- The scales read. -/
theorem wp_readG {g : Vec F S1x4096 .f32} {Q : Vec F S1x4096 .f32 → sProp 𝕄} :
    (owns (c : Thread nD τ) mGam fullShare g : sProp 𝕄)
      ⊢ iprop((owns (c : Thread nD τ) mGam fullShare g -∗ Q g) -∗ WP c readG Q) := by
  unfold owns readG
  iintro ⟨%f, %hg, Hp⟩ Hk
  have hr : (mGam.access (Rect.unit (s := S1x4096) ![0, 0] S1x4096.size inb_S1x4096_S1x4096_0_0)).read (Elt F) f = g := by
    rw [← hg]
    funext i
    show mGam.view.read (Elt F) f ((Rect.unit (s := S1x4096) ![0, 0] S1x4096.size inb_S1x4096_S1x4096_0_0).emb i) = mGam.view.read (Elt F) f i
    congr 1
    funext a
    refine Fin.ext ?_
    fin_cases a
    · show 0 + 1 * (i 0).val = (i 0).val; omega
    · show 0 + 1 * (i 1).val = (i 1).val; omega
  iapply (wp_load_rect 𝒱₀ (c : Thread nD τ) none Set.univ (m := mGam) (r := Rect.unit (s := S1x4096) ![0, 0] S1x4096.size inb_S1x4096_S1x4096_0_0)
    (f := f) (q := fullShare) (S := mGam.view.set) (View.set_slice_subset _ _)) $$ Hp
  iintro Hp
  rw [wp_ret, hr]
  imodintro
  iapply Hk
  iexists f
  isplitr; · ipureintro; exact hg
  iexact Hp

/-- Stage Y of chunk `k`, the `n`-th store its own. -/
theorem wp_stageY (k : Fin 8) (n : Fin 16) (kx : ℕ) (hk : k.val < kx) (hW : I.W c n.val = I.O c k) {Q : PUnit → sProp 𝕄} :
    iprop(Ctx I κ ∗ YSt I c k.val ∗ PFull I c k ∗ OSt I c n.val ∗ Owe c (owed c kx k.val))
      ⊢ iprop((iprop(YSt I c (k.val + 1) ∗ PFree c (k.val + 3) ∗ OSt I c (n.val + 1) ∗ Owe c (owed c kx (k.val + 1))) -∗ Q ⟨⟩)
          -∗ WP c (stageY c k n.val) Q) := by
  unfold YSt stageY
  rw [Todo_step (YNeed c) k, Done_step _ k, show RAt I c k.val = RFly I c k from dif_pos k.isLt]
  iintro ⟨#HC, ⟨⟨HR, HRF⟩, HS, HS', ⟨HN, HT⟩, HT', HD, HG⟩, HPF, HOS, HO⟩ Hk
  ihave #HL := (ctx_lev I κ) $$ HC
  unfold RFly
  rw [WP_bind]
  unfold rloadWait
  iapply (wp_finish (a := vRes c k) (b := vRc (s2 k)) (n := NF) (O := owed c kx k.val) rfl) $$ [HR HO]
  · isplitl [HR]; · iexact HR
    isplitl [HO]; · iexact HO
    iapply (mayWait c _ kx k.val (by rw [use_r]; exact Nat.add_pos_left (by decide) _) (by rw [use_r]; exact Nat.add_pos_left (by decide) _)) $$ HL
  iintro ⟨⟨HR, HRV⟩, Hv, HO⟩
  rw [WP_bind]
  iapply (wp_rNext I k) $$ [HRF HT']
  · isplitl [HRF] <;> iassumption
  iintro ⟨HRA, HT'⟩
  unfold YNeed
  icases HN with ⟨⟨Ht, Ht', HF', #Hr'⟩, Hc, Hp⟩
  ihave #HI := (ctx_xr I κ c k) $$ HC
  rw [WP_bind]
  unfold xWaitRecv
  iapply (wp_take I.SX I.SY (a := vXs (s2 k)) (b := vXr k) (κ := κ (xrC c k)) (s := xrS k) (r := 0) (O := owed c kx k.val) rfl (duties_xr I.SX I.SY c k)
    (payload_xr I.SX I.SY c k 0 true)) $$ [Hc Hp HO]
  · isplitr; · iexact HI
    isplitl [Hc]; · iexact Hc
    isplitl [HO]; · iexact HO
    isplitr
    · iapply (mayWait c _ kx k.val (by rw [use_xr]; show 2 + 2 * k.val < 2 + 2 * kx; omega) (by rw [use_xr]; show 2 + 2 * k.val < 3 + 2 * k.val; omega)) $$ HL
    iexact Hp
  iintro ⟨HX, Hp, -, HO⟩
  unfold PFull
  icases HPF with ⟨HP, HPv⟩
  rw [WP_bind]
  unfold readP
  iapply (wp_slot_load (X := I.P c k)) $$ HP
  iintro %p %hp HP
  rw [WP_bind]
  unfold readXr
  iapply (wp_slot_load (X := I.SX (xn c) k)) $$ HX
  iintro %x %hx HX
  rw [WP_bind]
  unfold readR
  iapply (wp_slot_load (X := I.R c k)) $$ HR
  iintro %r %hr HR
  rw [WP_bind]
  iapply wp_readG $$ HG
  iintro HG
  rw [show normBlk (sumBlk (unslot p) (unslot x) (unslot r)) (I.G c) = I.O c k from by
    show normBlk (sumBlk (unslot p) (unslot x) (unslot r)) (I.G c) = normBlk (sumBlk (I.P c k) (I.SX (xn c) k) (I.R c k)) (I.G c)
    rw [← hp, ← hx, ← hr]]
  rw [WP_bind]
  iapply (wp_yReady I κ k kx k.val) $$ [HS HO]
  · isplitr; · iexact HC
    isplitl [HS] <;> iassumption
  iintro ⟨HY, Hp', #Hr, HO⟩
  rw [WP_bind]
  unfold writeYs
  iapply (wp_slot_store (X := I.SY c k)) $$ HY
  iintro HY
  rw [WP_bind, ydev_eq]
  unfold yStart
  ihave #HI₁ := (ctx_ys I κ c (s2 k)) $$ HC
  ihave #HI₂ := (ctx_yr I κ (yn c) k) $$ HC
  iapply (wp_post I.SX I.SY (src := vYs (s2 k)) (dst := vYr k) (s := ysS (s2 k)) (t := yrS k) (X := I.SY c k) (r := k.val / 2) (κ₁ := κ (ysC c (s2 k))) (κ₂ := κ (yrC (yn c) k)) (O := owed c kx (k.val + 1)) rfl
    (duties_ys I.SX I.SY c _ _ (by omega)) (duties_yr I.SX I.SY (yn c) k) (payload_ys I.SX I.SY c _ _ _)
    (by rw [payload_yr, yn_yn]) (owed_y c kx k)) $$ [HY HF' HO Ht Ht']
  · isplitr; · iexact HI₁
    isplitr; · iexact HI₂
    isplitl [HY]; · iexact HY
    isplitl [HF']; · iexact HF'
    isplitl [HO]; · iexact HO
    isplitl [Ht]; · iexact Ht
    isplitr; · iexact Hr
    isplitl [Ht']; · iexact Ht'
    iexact Hr'
  iintro ⟨Hc, HO⟩
  iapply (wp_outStore I κ n kx (k.val + 1) (I.O c k) hW.symm) $$ [HOS HO]
  · isplitr; · iexact HC
    isplitl [HOS] <;> iassumption
  iintro ⟨HOS, HO⟩
  iapply Hk
  isplitr [HP HPv HOS HO]
  · isplitl [HRA HR Hv]
    · isplitl [HRA]; · iexact HRA
      unfold RFree
      rw [show k.val + 1 + 1 = k.val + 2 from rfl, s2_add]
      isplitl [HR]; · iapply (Holds.free c _ _) $$ HR
      iexact Hv
    isplitl [HS']; · iexact HS'
    isplitl [Hc Hp']
    · unfold YSlot
      rw [if_neg (by omega), s2_add, show (k.val + 1 + 1) / 2 - 1 = k.val / 2 from by omega]
      isplitl [Hc] <;> iassumption
    isplitl [HT]; · iexact HT
    isplitl [HT']; · iexact HT'
    isplitr [HG]
    · isplitr [HD]
      · unfold YHave
        isplitl [HRV]; · iexact HRV
        isplitl [HX]; · iapply (Holds.free c _ _) $$ HX
        iexact Hp
      iexact HD
    iexact HG
  isplitl [HP HPv]
  · unfold PFree
    rw [s3_add]
    isplitl [HP]; · iapply (Holds.free c _ _) $$ HP
    iexact HPv
  isplitl [HOS] <;> iassumption

/-! ### Stage Z -/

/-- Stage Z of chunk `k`, the `n`-th store its own. -/
theorem wp_stageZ (k : Fin 8) (n : Fin 16) (kx ky : ℕ) (hx : k.val < kx) (hy : k.val < ky) (hW : I.W c n.val = I.Z c k) {Q : PUnit → sProp 𝕄} :
    iprop(Ctx I κ ∗ ZSt c k.val ∗ OSt I c n.val ∗ Owe c (owed c kx ky))
      ⊢ iprop((iprop(ZSt c (k.val + 1) ∗ OSt I c (n.val + 1) ∗ Owe c (owed c kx ky)) -∗ Q ⟨⟩) -∗ WP c (stageZ c k n.val) Q) := by
  unfold ZSt stageZ
  rw [Todo_step (ZNeed c) k, Done_step _ k]
  iintro ⟨#HC, ⟨⟨HF, Hv⟩, ⟨HN, HT⟩, HD⟩, HOS, HO⟩ Hk
  ihave #HL := (ctx_lev I κ) $$ HC
  unfold ZNeed
  icases HN with ⟨Hc, Hp⟩
  ihave #HI := (ctx_yr I κ c k) $$ HC
  rw [WP_bind]
  unfold yWaitRecv
  iapply (wp_take I.SX I.SY (a := vYs (s2 k)) (b := vYr k) (κ := κ (yrC c k)) (s := yrS k) (r := 0) (O := owed c kx ky) rfl (duties_yr I.SX I.SY c k)
    (payload_yr I.SX I.SY c k 0 true)) $$ [Hc Hp HO]
  · isplitr; · iexact HI
    isplitl [Hc]; · iexact Hc
    isplitl [HO]; · iexact HO
    isplitr
    · iapply (mayWait c _ kx ky (by rw [use_yr]; show 3 + 2 * k.val < 2 + 2 * kx; omega) (by rw [use_yr]; show 3 + 2 * k.val < 3 + 2 * ky; omega)) $$ HL
    iexact Hp
  iintro ⟨HY, Hp, -, HO⟩
  rw [WP_bind]
  unfold yloadStart
  iapply (wp_start (src := vYr k) (dst := vYc) (X := I.SY (yn c) k) vYc.view.dmaCredit rfl) $$ [HY HF Hv]
  · isplitl [HY]; · iexact HY
    isplitl [HF] <;> iassumption
  iintro HF
  rw [WP_bind]
  unfold yloadWait
  iapply (wp_finish (a := vYr k) (b := vYc) (n := vYc.view.dmaCredit) (O := owed c kx ky) rfl) $$ [HF HO]
  · isplitl [HF]; · iexact HF
    isplitl [HO]; · iexact HO
    iapply (mayWait c _ kx ky (by rw [use_y]; exact Nat.add_pos_left (by decide) _) (by rw [use_y]; exact Nat.add_pos_left (by decide) _)) $$ HL
  iintro ⟨⟨HF, HY⟩, Hv, HO⟩
  rw [WP_bind]
  unfold readYc
  iapply (wp_slot_load (X := I.SY (yn c) k)) $$ HF
  iintro %z %hz HF
  iapply (wp_outStore I κ n kx ky _ (hW.trans (congrArg (fun z => extf .f32 z bitsLt_bf16_f32) hz.symm)).symm) $$ [HOS HO]
  · isplitr; · iexact HC
    isplitl [HOS] <;> iassumption
  iintro ⟨HOS, HO⟩
  iapply Hk
  isplitr [HOS HO]
  · isplitl [HF Hv]
    · isplitl [HF]; · iapply (Holds.free c _ _) $$ HF
      iexact Hv
    isplitl [HT]; · iexact HT
    isplitr [HD]
    · unfold ZHave
      isplitl [HY]; · iapply (Holds.free c _ _) $$ HY
      iexact Hp
    iexact HD
  isplitl [HOS] <;> iassumption

end Cert.KernelIdeal.Rms

end
-- ==== Proof.Run.lean ====
/-
  The body, run.

  What a device holds between two stages is one state, numbered by how far each pipeline has got. Every stage moves the
  state on, the opening makes the first state of what the device is launched with, and the closing makes of the last one
  what it ends with. The body is their sequence.
-/
module

public import Idealize.ShloMosaic.Lib.Ring
public import proofs.«01_k».proof.Proof.Stages

@[expose] public section

set_option synthInstance.maxSize 4096

noncomputable section

namespace Cert.KernelIdeal.Rms

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (bigSep_fin2 bigSep_fin3)

variable {F : FTy → Type} [FloatOps F]

local notation "𝕄" => MT nD τ sig Unit (Elt F) ℕ UU ℕ

variable (I : Ins F) (κ : GSem nD τ sig → ℕ) (c : Dev nD)

/-- A piece and a family without it make the larger family. -/
theorem bigSep_add {ι : Type} [DecidableEq ι] {s : Finset ι} {i : ι} (hi : i ∉ s) (Φ : ι → sProp 𝕄) :
    bigSep (insert i s) Φ = iprop(Φ i ∗ bigSep s Φ) := bigSep_insert hi
/-- A family's pieces can each be weakened. -/
theorem bigSep_each {n : ℕ} {Φ Ψ : Fin n → sProp 𝕄} (h : ∀ i, Φ i ⊢ Ψ i) : (bigSep Finset.univ Φ : sProp 𝕄) ⊢ bigSep Finset.univ Ψ :=
  bigSep_mono fun i _ => h i

/-! ### Programs in sequence -/

/-- Run on device `c`, the program `p` makes `T` of `S`. -/
def Step (S : sProp 𝕄) (p : Pg F PUnit) (T : sProp 𝕄) : Prop :=
  ∀ Q : PUnit → sProp 𝕄, iprop(Ctx I κ ∗ S) ⊢ iprop((T -∗ Q ⟨⟩) -∗ WP c p Q)

variable {I κ c}

/-- Two steps in sequence are a step. -/
theorem Step.seq {S T U : sProp 𝕄} {p q : Pg F PUnit} (hp : Step I κ c S p T) (hq : Step I κ c T q U) :
    Step I κ c S (p >>= fun _ => q) U := by
  intro Q
  rw [WP_bind]
  iintro ⟨#HC, HS⟩ Hk
  iapply (hp fun _ => WP c q Q) $$ [HS]
  · isplitr; · iexact HC
    iexact HS
  iintro HT
  iapply (hq Q) $$ [HT]
  · isplitr; · iexact HC
    iexact HT
  iexact Hk

/-- What a step leaves can be weakened. -/
theorem Step.post {S T T' : sProp 𝕄} {p : Pg F PUnit} (hp : Step I κ c S p T) (h : T ⊢ T') : Step I κ c S p T' := by
  intro Q
  iintro H Hk
  iapply (hp Q) $$ H
  iintro HT
  iapply Hk
  iapply h $$ HT

variable (I c)

/-! ### The state between stages -/

/-- The slots of the partial sums not on their way: those loaded and not yet normalised, and those free. -/
def Pool (kx ky : ℕ) : sProp 𝕄 :=
  iprop(bigSep ((Finset.univ : Finset (Fin 8)).filter fun k => ky ≤ k.val ∧ k.val < kx) (PFull I c)
    ∗ bigSep ((Finset.range 11).filter fun n => kx + 1 ≤ n ∧ n < ky + 3) (PFree c))

/-- What device `c` holds with `kx` chunks sent along `x`, `ky` normalised, `kz` of the neighbour's stored. -/
def St (kx ky kz : ℕ) : sProp 𝕄 :=
  iprop(XSt I c kx ∗ YSt I c ky ∗ ZSt c kz ∗ OSt I c (ky + kz) ∗ Pool I c kx ky ∗ Owe c (owed c kx ky) ∗ atPos ER (barC c) 1 ∅ 0)

/-- The first stage takes a free slot of the partial sums' ring and fills it. -/
theorem Pool_x (k : Fin 8) (ky : ℕ) (h : k.val ≤ ky + 1) (h' : ky ≤ k.val) :
    (Pool I c k.val ky : sProp 𝕄) ⊢ iprop(PFree c (k.val + 1) ∗ (PFull I c k -∗ Pool I c (k.val + 1) ky)) := by
  unfold Pool
  have hk := k.isLt
  rw [show (Finset.range 11).filter (fun n => k.val + 1 ≤ n ∧ n < ky + 3)
      = insert (k.val + 1) ((Finset.range 11).filter fun n => k.val + 1 + 1 ≤ n ∧ n < ky + 3) from by
    ext n; simp only [Finset.mem_filter, Finset.mem_range, Finset.mem_insert]; omega,
    show (Finset.univ : Finset (Fin 8)).filter (fun j => ky ≤ j.val ∧ j.val < k.val + 1)
      = insert k ((Finset.univ : Finset (Fin 8)).filter fun j => ky ≤ j.val ∧ j.val < k.val) from by
    ext j; simp only [Finset.mem_filter, Finset.mem_univ, true_and, Finset.mem_insert, Fin.ext_iff]; omega,
    bigSep_add (by simp), bigSep_add (by simp)]
  iintro ⟨HA, HB, HD⟩
  isplitl [HB]; · iexact HB
  iintro HF
  isplitr [HD]
  · isplitl [HF]; · iexact HF
    iexact HA
  iexact HD

/-- The second stage takes the filled slot and frees it. -/
theorem Pool_y (k : Fin 8) (kx : ℕ) (h : k.val < kx) (h' : kx ≤ k.val + 2) :
    (Pool I c kx k.val : sProp 𝕄) ⊢ iprop(PFull I c k ∗ (PFree c (k.val + 3) -∗ Pool I c kx (k.val + 1))) := by
  unfold Pool
  have hk := k.isLt
  rw [show (Finset.range 11).filter (fun n => kx + 1 ≤ n ∧ n < k.val + 1 + 3)
      = insert (k.val + 3) ((Finset.range 11).filter fun n => kx + 1 ≤ n ∧ n < k.val + 3) from by
    ext n; simp only [Finset.mem_filter, Finset.mem_range, Finset.mem_insert]; omega,
    show (Finset.univ : Finset (Fin 8)).filter (fun j => k.val ≤ j.val ∧ j.val < kx)
      = insert k ((Finset.univ : Finset (Fin 8)).filter fun j => k.val + 1 ≤ j.val ∧ j.val < kx) from by
    ext j; simp only [Finset.mem_filter, Finset.mem_univ, true_and, Finset.mem_insert, Fin.ext_iff]; omega,
    bigSep_add (by simp), bigSep_add (by simp)]
  iintro ⟨⟨HA, HB⟩, HD⟩
  isplitl [HA]; · iexact HA
  iintro HF
  isplitl [HB]; · iexact HB
  isplitl [HF]; · iexact HF
  iexact HD

variable {I c}

/-- The first stage moves the state on by one chunk loaded and sent along `x`, -/
theorem stepX (k : Fin 8) {ky kz : ℕ} (h : k.val ≤ ky + 1) (h' : ky ≤ k.val) :
    Step I κ c (St I c k.val ky kz) (stageX c k) (St I c (k.val + 1) ky kz) := by
  intro Q
  unfold St
  iintro ⟨#HC, HX, HY, HZ, HOS, HP, HO, Hb⟩ Hk
  ihave HP := (Pool_x I c k ky h h') $$ HP
  icases HP with ⟨HF, HP⟩
  iapply (wp_stageX I κ k ky) $$ [HX HF HO]
  · isplitr; · iexact HC
    isplitl [HX]; · iexact HX
    isplitl [HF] <;> iassumption
  iintro ⟨HX, HF, HO⟩
  iapply Hk
  isplitl [HX]; · iexact HX
  isplitl [HY]; · iexact HY
  isplitl [HZ]; · iexact HZ
  isplitl [HOS]; · iexact HOS
  isplitl [HP HF]; · iapply HP $$ HF
  isplitl [HO] <;> iassumption

/-- the second by one chunk normalised, sent along `y` and stored, -/
theorem stepY (k : Fin 8) (n : Fin 16) {kx kz : ℕ} (hn : k.val + kz = n.val) (h : k.val < kx) (h' : kx ≤ k.val + 2) (hW : I.W c n.val = I.O c k) :
    Step I κ c (St I c kx k.val kz) (stageY c k n.val) (St I c kx (k.val + 1) kz) := by
  intro Q
  unfold St
  rw [show k.val + 1 + kz = n.val + 1 from by omega, hn]
  iintro ⟨#HC, HX, HY, HZ, HOS, HP, HO, Hb⟩ Hk
  ihave HP := (Pool_y I c k kx h h') $$ HP
  icases HP with ⟨HF, HP⟩
  iapply (wp_stageY I κ k n kx h hW) $$ [HY HF HOS HO]
  · isplitr; · iexact HC
    isplitl [HY]; · iexact HY
    isplitl [HF]; · iexact HF
    isplitl [HOS] <;> iassumption
  iintro ⟨HY, HF, HOS, HO⟩
  iapply Hk
  isplitl [HX]; · iexact HX
  isplitl [HY]; · iexact HY
  isplitl [HZ]; · iexact HZ
  isplitl [HOS]; · iexact HOS
  isplitl [HP HF]; · iapply HP $$ HF
  isplitl [HO] <;> iassumption

/-- the third by one of the neighbour's chunks read back and stored. -/
theorem stepZ (k : Fin 8) (n : Fin 16) {kx ky : ℕ} (hn : ky + k.val = n.val) (hx : k.val < kx) (hy : k.val < ky) (hW : I.W c n.val = I.Z c k) :
    Step I κ c (St I c kx ky k.val) (stageZ c k n.val) (St I c kx ky (k.val + 1)) := by
  intro Q
  unfold St
  rw [show ky + (k.val + 1) = n.val + 1 from by omega, hn]
  iintro ⟨#HC, HX, HY, HZ, HOS, HP, HO, Hb⟩ Hk
  iapply (wp_stageZ I κ k n kx ky hx hy hW) $$ [HZ HOS HO]
  · isplitr; · iexact HC
    isplitl [HZ]; · iexact HZ
    isplitl [HOS] <;> iassumption
  iintro ⟨HZ, HOS, HO⟩
  iapply Hk
  isplitl [HX]; · iexact HX
  isplitl [HY]; · iexact HY
  isplitl [HZ]; · iexact HZ
  isplitl [HOS]; · iexact HOS
  isplitl [HP]; · iexact HP
  isplitl [HO] <;> iassumption

/-! ### The opening -/

variable (I c)

/-- The two duties of sending chunk `k` along `x`. -/
def XTok (k : Fin 8) : sProp 𝕄 := iprop(dutyTok ER (xsC c (s2 k)) (k.val / 2) true ∗ dutyTok ER (xrC (xn c) k) 0 true)
/-- Those of sending it along `y`. -/
def YTok (k : Fin 8) : sProp 𝕄 := iprop(dutyTok ER (ysC c (s2 k)) (k.val / 2) true ∗ dutyTok ER (yrC (yn c) k) 0 true)

/-- What device `c` brings to its own rendezvous: its duties there, its credit, and the slots the neighbours will write. -/
def Meet : sProp 𝕄 :=
  iprop((dutyTok ER (barC (xn c)) 0 true ∗ dutyTok ER (barC (yn c)) 0 false)
    ∗ (cred (tallyAt (barC c) () 2) ∗ atPos ER (barC c) 0 ∅ 0)
    ∗ (bigSep (Finset.univ : Finset (Fin 8)) fun k => iprop(Free c (vXr k) ∗ reached ER (xrC c k) 0))
    ∗ (bigSep (Finset.univ : Finset (Fin 8)) fun k => iprop(Free c (vYr k) ∗ reached ER (yrC c k) 0)))

/-- The rings of its own transfers, free. -/
def Rings : sProp 𝕄 :=
  iprop((bigSep (Finset.univ : Finset (Fin 3)) fun i => iprop(Free c (vPc i) ∗ semVal ((c : Thread nD τ), .dma (pS i)) 0))
    ∗ (bigSep (Finset.univ : Finset (Fin 2)) fun i => iprop(Free c (vRc i) ∗ semVal ((c : Thread nD τ), .dma (rS i)) 0))
    ∗ (bigSep (Finset.univ : Finset (Fin 3)) fun i => iprop(Free c (vOc i) ∗ semVal ((c : Thread nD τ), .dma (oS i)) 0))
    ∗ (Free c vYc ∗ semVal ((c : Thread nD τ), .dma yS) 0))

/-- The slots it sends from, free, at the start. -/
def Sends : sProp 𝕄 :=
  iprop((bigSep (Finset.univ : Finset (Fin 2)) fun i => iprop(Free c (vXs i) ∗ atPos ER (xsC c i) 0 ∅ 0 ∗ reached ER (xsC c i) 0))
    ∗ (bigSep (Finset.univ : Finset (Fin 2)) fun i => iprop(Free c (vYs i) ∗ atPos ER (ysC c i) 0 ∅ 0 ∗ reached ER (ysC c i) 0)))

/-- The duties of its sends, and its credits and places at its arrivals. -/
def Toks : sProp 𝕄 :=
  iprop((bigSep (Finset.univ : Finset (Fin 8)) (XTok c)) ∗ (bigSep (Finset.univ : Finset (Fin 8)) (YTok c))
    ∗ (bigSep (Finset.univ : Finset (Fin 8)) fun k => iprop(cred (tallyAt (xrC c k) () N) ∗ atPos ER (xrC c k) 0 ∅ 0))
    ∗ (bigSep (Finset.univ : Finset (Fin 8)) (ZNeed c)))

/-- The arrays it reads. -/
def Reads : sProp 𝕄 :=
  iprop((bigSep (Finset.univ : Finset (Fin 8)) fun k => Holds c (vPart c k) (I.P c k))
    ∗ (bigSep (Finset.univ : Finset (Fin 8)) fun k => Holds c (vRes c k) (I.R c k)) ∗ owns (c : Thread nD τ) mGam fullShare (I.G c))

/-- What a device starts the body with. -/
def Begin : sProp 𝕄 :=
  iprop(Meet c ∗ Rings c ∗ Sends c ∗ Toks c ∗ Reads I c
    ∗ (bigSep (Finset.univ : Finset (Fin 16)) fun m => Free c (outDst c m)) ∗ Owe c (O₀ c))

/-- The tokens and the neighbour's slots are what the sends along `x` need, -/
theorem needX : iprop(bigSep (Finset.univ : Finset (Fin 8)) (XTok c) ∗ barX c) ⊢ (Todo (XNeed c) 0 : sProp 𝕄) := by
  rw [Todo_zero]
  unfold barX
  refine (Entails.of_eq (bigSep_sep' _ _ _).symm).trans (bigSep_each fun k => ?_)
  unfold XTok XNeed
  iintro ⟨⟨Ha, Hb⟩, Hc, Hd⟩
  isplitl [Ha]; · iexact Ha
  isplitl [Hb]; · iexact Hb
  isplitl [Hc] <;> iassumption

/-- and, with the arrivals along `x`, what the second stages need. -/
theorem needY : iprop((bigSep (Finset.univ : Finset (Fin 8)) (YTok c) ∗ barY c)
      ∗ (bigSep (Finset.univ : Finset (Fin 8)) fun k => iprop(cred (tallyAt (xrC c k) () N) ∗ atPos ER (xrC c k) 0 ∅ 0)))
    ⊢ (Todo (YNeed c) 0 : sProp 𝕄) := by
  rw [Todo_zero]
  unfold barY
  refine (sep_mono_left (Entails.of_eq (bigSep_sep' _ _ _).symm)).trans ((Entails.of_eq (bigSep_sep' _ _ _).symm).trans (bigSep_each fun k => ?_))
  unfold YTok YNeed
  iintro ⟨⟨⟨Ha, Hb⟩, Hc, Hd⟩, He⟩
  isplitr [He]
  · isplitl [Ha]; · iexact Ha
    isplitl [Hb]; · iexact Hb
    isplitl [Hc] <;> iassumption
  iexact He

/-- The partial sums' ring at the start: two free slots, -/
theorem pool_zero : iprop((Free c (vPc 1) ∗ semVal ((c : Thread nD τ), .dma (pS 1)) 0) ∗ (Free c (vPc 2) ∗ semVal ((c : Thread nD τ), .dma (pS 2)) 0)) ⊢ (Pool I c 0 0 : sProp 𝕄) := by
  unfold Pool
  rw [show (Finset.univ : Finset (Fin 8)).filter (fun k => 0 ≤ k.val ∧ k.val < 0) = ∅ from by decide,
    show (Finset.range 11).filter (fun n => 0 + 1 ≤ n ∧ n < 0 + 3) = {1, 2} from by decide, bigSep_empty, bigSep_add (by decide), bigSep_singleton,
    show PFree c 1 = iprop(Free c (vPc 1) ∗ semVal ((c : Thread nD τ), .dma (pS 1)) 0) from rfl,
    show PFree c 2 = iprop(Free c (vPc 2) ∗ semVal ((c : Thread nD τ), .dma (pS 2)) 0) from rfl]
  iintro ⟨Ha, Hb⟩
  isplitr; · iempintro
  isplitl [Ha] <;> iassumption

variable {I c}

set_option maxHeartbeats 2000000 in
/-- The opening makes the first state. -/
theorem wp_opening : Step I κ c (Begin I c) (opening c) (St I c 0 0 0) := by
  intro Q
  unfold Begin Meet Rings Sends Toks Reads opening St XSt YSt ZSt OSt
  rw [← Todo_zero (fun k : Fin 8 => Holds c (vPart c k) (I.P c k)), ← Todo_zero (fun k : Fin 8 => Holds c (vRes c k) (I.R c k)),
    ← Todo_zero (ZNeed c), ← Todo_zero (fun m : Fin 16 => Free c (outDst c m)),
    show Todo (fun k : Fin 8 => Holds c (vPart c k) (I.P c k)) 0 = _ from Todo_step _ (0 : Fin 8),
    show Todo (fun k : Fin 8 => Holds c (vRes c k) (I.R c k)) 0 = _ from Todo_step _ (0 : Fin 8),
    Done_zero, Done_zero, Done_zero, Done_zero, bigSep_fin3, bigSep_fin3, bigSep_fin2, bigSep_fin2, bigSep_fin2, dev1_eq, dev2_eq]
  have hX : (bigSep (Finset.univ : Finset (Fin 8)) fun k => iprop(Free c (vXr k) ∗ reached ER (xrC c k) 0) : sProp 𝕄) = pay I.SX I.SY (xn c) .bar true := by
    show _ = barX (xn c); unfold barX; rw [xn_xn]
  have hY : (bigSep (Finset.univ : Finset (Fin 8)) fun k => iprop(Free c (vYr k) ∗ reached ER (yrC c k) 0) : sProp 𝕄) = pay I.SX I.SY (yn c) .bar false := by
    show _ = barY (yn c); unfold barY; rw [yn_yn]
  rw [hX, hY,
    show PAt I c 0 = PFly I c 0 from rfl,
    show RAt I c 0 = RFly I c 0 from rfl,
    show XSlot c 0 = iprop(Free c (vXs 0) ∗ atPos ER (xsC c 0) 0 ∅ 0 ∗ reached ER (xsC c 0) 0) from rfl,
    show XSlot c (0 + 1) = iprop(Free c (vXs 1) ∗ atPos ER (xsC c 1) 0 ∅ 0 ∗ reached ER (xsC c 1) 0) from rfl,
    show YSlot c 0 = iprop(Free c (vYs 0) ∗ atPos ER (ysC c 0) 0 ∅ 0 ∗ reached ER (ysC c 0) 0) from rfl,
    show YSlot c (0 + 1) = iprop(Free c (vYs 1) ∗ atPos ER (ysC c 1) 0 ∅ 0 ∗ reached ER (ysC c 1) 0) from rfl,
    show OSlot I c (0 + 0) = iprop(Free c (vOc 0) ∗ semVal ((c : Thread nD τ), .dma (oS 0)) 0) from rfl,
    show OSlot I c (0 + 0 + 1) = iprop(Free c (vOc 1) ∗ semVal ((c : Thread nD τ), .dma (oS 1)) 0) from rfl,
    show OSlot I c (0 + 0 + 2) = iprop(Free c (vOc 2) ∗ semVal ((c : Thread nD τ), .dma (oS 2)) 0) from rfl,
    show RFree c (0 + 1) = iprop(Free c (vRc 1) ∗ semVal ((c : Thread nD τ), .dma (rS 1)) 0) from rfl]
  unfold PFly RFly
  iintro ⟨#HC, ⟨⟨Hx, Hy⟩, ⟨Hc, Hp⟩, HX, HY⟩, ⟨⟨⟨HP0, Hp0⟩, HP1, HP2⟩, ⟨⟨HR0, Hr0⟩, HR1⟩, ⟨HO0, HO1, HO2⟩, HYc⟩, ⟨⟨HX0, HX1⟩, HY0, HY1⟩, ⟨HXT, HYT, HXR, HYR⟩, ⟨⟨HPV, HPT⟩, ⟨HRV, HRT⟩, HG⟩, HOD, HO⟩ Hk
  ihave #HL := (ctx_lev I κ) $$ HC
  ihave #HIx := (ctx_bar I κ (xn c)) $$ HC
  ihave #HIy := (ctx_bar I κ (yn c)) $$ HC
  ihave #HIc := (ctx_bar I κ c) $$ HC
  ihave #Hox := (ctx_open I κ (xn c)) $$ HC
  ihave #Hoy := (ctx_open I κ (yn c)) $$ HC
  rw [WP_bind]
  iapply (wp_ring I.SX I.SY (c' := xn c) (d := true) (κ := κ (barC (xn c))) (O := owed c 0 0 + tallyAt (barC (yn c)) () 1) rfl) $$ [Hx HX HO]
  · isplitr; · iexact HIx
    isplitl [HO]; · iexact HO
    isplitl [Hx]; · iexact Hx
    isplitl [HX]; · iexact HX
    iexact Hox
  iintro HO
  rw [WP_bind]
  iapply (wp_ring I.SX I.SY (c' := yn c) (d := false) (κ := κ (barC (yn c))) (O := owed c 0 0) rfl) $$ [Hy HY HO]
  · isplitr; · iexact HIy
    isplitl [HO]; · iexact HO
    isplitl [Hy]; · iexact Hy
    isplitl [HY]; · iexact HY
    iexact Hoy
  iintro HO
  rw [WP_bind]
  iapply (wp_meet I.SX I.SY (κ := κ (barC c)) (O := owed c 0 0)) $$ [Hc Hp HO]
  · isplitr; · iexact HIc
    isplitl [Hc]; · iexact Hc
    isplitl [HO]; · iexact HO
    isplitr
    · iapply (mayWait c _ 0 0 (by rw [use_bar]; decide) (by rw [use_bar]; decide)) $$ HL
    iexact Hp
  iintro ⟨⟨HX, HY⟩, Hp, HO⟩
  rw [WP_bind]
  unfold ploadStart
  iapply (wp_start (src := vPart c 0) (dst := vPc 0) (X := I.P c 0) NF rfl) $$ [HP0 Hp0 HPV]
  · isplitl [HPV]; · iexact HPV
    isplitl [HP0] <;> iassumption
  iintro HP0
  unfold rloadStart
  iapply (wp_start (src := vRes c 0) (dst := vRc 0) (X := I.R c 0) NF rfl) $$ [HR0 Hr0 HRV]
  · isplitl [HRV]; · iexact HRV
    isplitl [HR0] <;> iassumption
  iintro HR0
  iapply Hk
  isplitl [HP0 HX0 HX1 HXT HX HPT]
  · isplitl [HP0]; · iexact HP0
    isplitl [HX0]; · iexact HX0
    isplitl [HX1]; · iexact HX1
    isplitl [HXT HX]
    · iapply (needX c)
      isplitl [HXT] <;> iassumption
    isplitl [HPT]; · iexact HPT
    iempintro
  isplitl [HR0 HR1 HY0 HY1 HYT HY HXR HRT HG]
  · isplitl [HR0 HR1]
    · isplitl [HR0]; · iexact HR0
      iexact HR1
    isplitl [HY0]; · iexact HY0
    isplitl [HY1]; · iexact HY1
    isplitl [HYT HY HXR]
    · iapply (needY c)
      isplitr [HXR]
      · isplitl [HYT] <;> iassumption
      iexact HXR
    isplitl [HRT]; · iexact HRT
    isplitr; · iempintro
    iexact HG
  isplitl [HYc HYR]
  · isplitl [HYc]; · iexact HYc
    isplitl [HYR]; · iexact HYR
    iempintro
  isplitl [HO0 HO1 HO2 HOD]
  · isplitl [HO0]; · iexact HO0
    isplitl [HO1]; · iexact HO1
    isplitl [HO2]; · iexact HO2
    isplitl [HOD]; · iexact HOD
    iempintro
  isplitl [HP1 HP2]
  · iapply (pool_zero I c)
    isplitl [HP1]
    · iexact HP1
    iexact HP2
  isplitl [HO] <;> iassumption

/-! ### The closing -/

/-- The last use of a store's slot waited for. -/
theorem lastO (m : ℕ) : Step I κ c iprop(OSlot I c (m + 3) ∗ Owe c (owed c 8 8)) (ostoreWait c m)
    iprop((Holds c (outDst c m) (I.W c m) ∗ Free c (vOc (s3 m)) ∗ semVal ((c : Thread nD τ), .dma (oS (s3 m))) 0) ∗ Owe c (owed c 8 8)) := by
  intro Q
  unfold OSlot ostoreWait
  rw [if_neg (show ¬ m + 3 < 3 by omega), s3_add, show m + 3 - 3 = m from rfl]
  iintro ⟨#HC, HS, HO⟩ Hk
  ihave #HL := (ctx_lev I κ) $$ HC
  iapply (wp_finish (a := vOc (s3 m)) (b := outDst c m) (n := NF) (O := owed c 8 8) (by unfold outDst; split_ifs <;> rfl)) $$ [HS HO]
  · isplitl [HS]; · iexact HS
    isplitl [HO]; · iexact HO
    iapply (mayWait c _ 8 8 (by rw [use_o]; decide) (by rw [use_o]; decide)) $$ HL
  iintro ⟨⟨HW, HF⟩, Hv, HO⟩
  iapply Hk
  isplitr [HO]
  · isplitl [HW]; · iexact HW
    isplitl [HF] <;> iassumption
  iexact HO

/-- The last departure from a slot along `x` waited for. -/
theorem lastX (k : Fin 8) : Step I κ c iprop(XSlot c (k.val + 2) ∗ Owe c (owed c 8 8)) (xWaitSend k)
    iprop((Free c (vXs (s2 k)) ∗ atPos ER (xsC c (s2 k)) (k.val / 2 + 1) ∅ 0) ∗ Owe c (owed c 8 8)) := by
  intro Q
  unfold XSlot xWaitSend
  rw [if_neg (by omega), s2_add, show (k.val + 2) / 2 - 1 = k.val / 2 from by omega]
  iintro ⟨#HC, ⟨Hc, Hp⟩, HO⟩ Hk
  ihave #HI := (ctx_xs I κ c (s2 k)) $$ HC
  ihave #HL := (ctx_lev I κ) $$ HC
  iapply (wp_take I.SX I.SY (a := vXr k) (b := vXs (s2 k)) (κ := κ (xsC c (s2 k))) (s := xsS (s2 k)) (r := k.val / 2) (P := Free c (vXs (s2 k))) (O := owed c 8 8)
    rfl (duties_xs I.SX I.SY c _ _ (by omega)) (payload_xs I.SX I.SY c _ _ _)) $$ [Hc Hp HO]
  · isplitr; · iexact HI
    isplitl [Hc]; · iexact Hc
    isplitl [HO]; · iexact HO
    isplitr
    · iapply (mayWait c _ 8 8 (by rw [use_xs]; exact Nat.succ_pos _) (by rw [use_xs]; exact Nat.succ_pos _)) $$ HL
    iexact Hp
  iintro ⟨HF, Hp, -, HO⟩
  iapply Hk
  isplitr [HO]
  · isplitl [HF] <;> iassumption
  iexact HO

/-- The last departure from a slot along `y` waited for. -/
theorem lastY (k : Fin 8) : Step I κ c iprop(YSlot c (k.val + 2) ∗ Owe c (owed c 8 8)) (yWaitSend k)
    iprop((Free c (vYs (s2 k)) ∗ atPos ER (ysC c (s2 k)) (k.val / 2 + 1) ∅ 0) ∗ Owe c (owed c 8 8)) := by
  intro Q
  unfold YSlot yWaitSend
  rw [if_neg (by omega), s2_add, show (k.val + 2) / 2 - 1 = k.val / 2 from by omega]
  iintro ⟨#HC, ⟨Hc, Hp⟩, HO⟩ Hk
  ihave #HI := (ctx_ys I κ c (s2 k)) $$ HC
  ihave #HL := (ctx_lev I κ) $$ HC
  iapply (wp_take I.SX I.SY (a := vYr k) (b := vYs (s2 k)) (κ := κ (ysC c (s2 k))) (s := ysS (s2 k)) (r := k.val / 2) (P := Free c (vYs (s2 k))) (O := owed c 8 8)
    rfl (duties_ys I.SX I.SY c _ _ (by omega)) (payload_ys I.SX I.SY c _ _ _)) $$ [Hc Hp HO]
  · isplitr; · iexact HI
    isplitl [Hc]; · iexact Hc
    isplitl [HO]; · iexact HO
    isplitr
    · iapply (mayWait c _ 8 8 (by rw [use_ys]; exact Nat.succ_pos _) (by rw [use_ys]; exact Nat.succ_pos _)) $$ HL
    iexact Hp
  iintro ⟨HF, Hp, -, HO⟩
  iapply Hk
  isplitr [HO]
  · isplitl [HF] <;> iassumption
  iexact HO

variable (I c)

/-- What a device ends the body with. -/
def End : sProp 𝕄 :=
  iprop(Rings c
    ∗ ((bigSep (Finset.univ : Finset (Fin 2)) fun i => iprop(Free c (vXs i) ∗ atPos ER (xsC c i) 4 ∅ 0))
      ∗ (bigSep (Finset.univ : Finset (Fin 2)) fun i => iprop(Free c (vYs i) ∗ atPos ER (ysC c i) 4 ∅ 0)))
    ∗ (bigSep (Finset.univ : Finset (Fin 8)) (YHave I c) ∗ bigSep (Finset.univ : Finset (Fin 8)) (ZHave c))
    ∗ ((bigSep (Finset.univ : Finset (Fin 8)) fun k => Holds c (vPart c k) (I.P c k)) ∗ owns (c : Thread nD τ) mGam fullShare (I.G c))
    ∗ (bigSep (Finset.univ : Finset (Fin 16)) fun m => Holds c (outDst c m) (I.W c m)) ∗ Owe c 0 ∗ atPos ER (barC c) 1 ∅ 0)

/-- and at the end two again. -/
theorem pool_end : (Pool I c 8 8 : sProp 𝕄) ⊢ iprop((Free c (vPc 0) ∗ semVal ((c : Thread nD τ), .dma (pS 0)) 0) ∗ (Free c (vPc 1) ∗ semVal ((c : Thread nD τ), .dma (pS 1)) 0)) := by
  unfold Pool
  rw [show (Finset.univ : Finset (Fin 8)).filter (fun k => 8 ≤ k.val ∧ k.val < 8) = ∅ from by decide,
    show (Finset.range 11).filter (fun n => 8 + 1 ≤ n ∧ n < 8 + 3) = {9, 10} from by decide, bigSep_empty, bigSep_add (by decide), bigSep_singleton,
    show PFree c 9 = iprop(Free c (vPc 0) ∗ semVal ((c : Thread nD τ), .dma (pS 0)) 0) from rfl,
    show PFree c 10 = iprop(Free c (vPc 1) ∗ semVal ((c : Thread nD τ), .dma (pS 1)) 0) from rfl]
  iintro ⟨-, H⟩
  iexact H

/-- The last three stores and those before are all sixteen. -/
theorem done_out : iprop(Holds c (outDst c 15) (I.W c 15) ∗ Holds c (outDst c 14) (I.W c 14) ∗ Holds c (outDst c 13) (I.W c 13)
      ∗ Done (fun m : Fin 16 => Holds c (outDst c m) (I.W c m)) 13)
    ⊢ (bigSep (Finset.univ : Finset (Fin 16)) fun m => Holds c (outDst c m) (I.W c m) : sProp 𝕄) := by
  refine Entails.of_eq ?_
  rw [← Done_all _ 16 le_rfl, show Done (fun m : Fin 16 => Holds c (outDst c m) (I.W c m)) 16 = _ from Done_step _ (15 : Fin 16),
    show Done (fun m : Fin 16 => Holds c (outDst c m) (I.W c m)) (15 : Fin 16).val = _ from Done_step _ (14 : Fin 16),
    show Done (fun m : Fin 16 => Holds c (outDst c m) (I.W c m)) (14 : Fin 16).val = _ from Done_step _ (13 : Fin 16)]
  rfl

variable {I c}

set_option maxHeartbeats 2000000 in
/-- The closing ends the body. -/
theorem wp_closing : Step I κ c (St I c 8 8 8) (closing c) (End I c) := by
  intro Q
  unfold St XSt YSt ZSt OSt closing End Rings
  rw [Done_all _ 8 le_rfl, Done_all _ 8 le_rfl, Done_all _ 8 le_rfl, bigSep_fin3, bigSep_fin3, bigSep_fin2, bigSep_fin2, bigSep_fin2,
    show PAt I c 8 = iprop(Free c (vPc 2) ∗ semVal ((c : Thread nD τ), .dma (pS 2)) 0) from rfl,
    show RAt I c 8 = iprop(Free c (vRc 0) ∗ semVal ((c : Thread nD τ), .dma (rS 0)) 0) from rfl,
    show RFree c (8 + 1) = iprop(Free c (vRc 1) ∗ semVal ((c : Thread nD τ), .dma (rS 1)) 0) from rfl]
  iintro ⟨#HC, ⟨HP8, HX8, HX9, -, -, HPD⟩, ⟨⟨HR8, HR9⟩, HY8, HY9, -, -, HYD, HG⟩, ⟨HYc, -, HZD⟩, ⟨HO6, HO7, HO8, -, HOD⟩, HPool, HO, Hb⟩ Hk
  ihave HPool := (pool_end I c) $$ HPool
  icases HPool with ⟨HP9, HP10⟩
  rw [WP_bind]
  iapply (lastO 15 _) $$ [HO8 HO]
  · isplitr; · iexact HC
    isplitl [HO8]; · iexact HO8
    iexact HO
  iintro ⟨⟨HW15, HO8⟩, HO⟩
  rw [WP_bind]
  iapply (lastO 13 _) $$ [HO6 HO]
  · isplitr; · iexact HC
    isplitl [HO6]; · iexact HO6
    iexact HO
  iintro ⟨⟨HW13, HO6⟩, HO⟩
  rw [WP_bind]
  iapply (lastO 14 _) $$ [HO7 HO]
  · isplitr; · iexact HC
    isplitl [HO7]; · iexact HO7
    iexact HO
  iintro ⟨⟨HW14, HO7⟩, HO⟩
  rw [WP_bind]
  iapply (lastX 6 _) $$ [HX8 HO]
  · isplitr; · iexact HC
    isplitl [HX8]; · iexact HX8
    iexact HO
  iintro ⟨HX8, HO⟩
  rw [WP_bind]
  iapply (lastY 6 _) $$ [HY8 HO]
  · isplitr; · iexact HC
    isplitl [HY8]; · iexact HY8
    iexact HO
  iintro ⟨HY8, HO⟩
  rw [WP_bind]
  iapply (lastX 7 _) $$ [HX9 HO]
  · isplitr; · iexact HC
    isplitl [HX9]; · iexact HX9
    iexact HO
  iintro ⟨HX9, HO⟩
  iapply (lastY 7 _) $$ [HY9 HO]
  · isplitr; · iexact HC
    isplitl [HY9]; · iexact HY9
    iexact HO
  iintro ⟨HY9, HO⟩
  iapply Hk
  isplitl [HP8 HP9 HP10 HR8 HR9 HO6 HO7 HO8 HYc]
  · isplitl [HP8 HP9 HP10]
    · isplitl [HP9]; · iexact HP9
      isplitl [HP10]; · iexact HP10
      iexact HP8
    isplitl [HR8 HR9]
    · isplitl [HR8]; · iexact HR8
      iexact HR9
    isplitl [HO6 HO7 HO8]
    · isplitl [HO8]; · iexact HO8
      isplitl [HO6]; · iexact HO6
      iexact HO7
    iexact HYc
  isplitl [HX8 HX9 HY8 HY9]
  · isplitl [HX8 HX9]
    · isplitl [HX8]; · iexact HX8
      iexact HX9
    isplitl [HY8]; · iexact HY8
    iexact HY9
  isplitl [HYD HZD]
  · isplitl [HYD] <;> iassumption
  isplitl [HPD HG]
  · isplitl [HPD] <;> iassumption
  isplitl [HW15 HW14 HW13 HOD]
  · iapply (done_out I c)
    isplitl [HW15]; · iexact HW15
    isplitl [HW14]; · iexact HW14
    isplitl [HW13]; · iexact HW13
    iexact HOD
  isplitl [HO]
  · rw [← owed_end c]; iexact HO
  iexact Hb

/-! ### The body -/

/-- The stages in their order. -/
theorem wp_stages : Step I κ c (Begin I c) (stages c) (End I c) :=
  (wp_opening).seq <| (stepX 0 (by decide) (by decide)).seq <| (stepX 1 (by decide) (by decide)).seq
    <| (stepY 0 0 rfl (by decide) (by decide) rfl).seq <| (stepX 2 (by decide) (by decide)).seq
    <| (stepY 1 1 rfl (by decide) (by decide) rfl).seq <| (stepX 3 (by decide) (by decide)).seq
    <| (stepY 2 2 rfl (by decide) (by decide) rfl).seq <| (stepZ 0 3 rfl (by decide) (by decide) rfl).seq <| (stepX 4 (by decide) (by decide)).seq
    <| (stepY 3 4 rfl (by decide) (by decide) rfl).seq <| (stepZ 1 5 rfl (by decide) (by decide) rfl).seq <| (stepX 5 (by decide) (by decide)).seq
    <| (stepY 4 6 rfl (by decide) (by decide) rfl).seq <| (stepZ 2 7 rfl (by decide) (by decide) rfl).seq <| (stepX 6 (by decide) (by decide)).seq
    <| (stepY 5 8 rfl (by decide) (by decide) rfl).seq <| (stepZ 3 9 rfl (by decide) (by decide) rfl).seq <| (stepX 7 (by decide) (by decide)).seq
    <| (stepY 6 10 rfl (by decide) (by decide) rfl).seq <| (stepZ 4 11 rfl (by decide) (by decide) rfl).seq
    <| (stepY 7 12 rfl (by decide) (by decide) rfl).seq <| (stepZ 5 13 rfl (by decide) (by decide) rfl).seq
    <| (stepZ 6 14 rfl (by decide) (by decide) rfl).seq <| (stepZ 7 15 rfl (by decide) (by decide) rfl).seq wp_closing

end Cert.KernelIdeal.Rms

end
-- ==== Proof.Arrays.lean ====
/-
  Whole buffers and their chunks.

  A device enters the kernel holding whole buffers and works on chunks of them. Here each scratch buffer, and the array
  the neighbour along `y` writes, is split into its slots and joined back; the two arrays it reads are split into the
  eight chunks it reads and the rest; and the result is put together of the sixteen chunks stored.
-/
module

public import proofs.«01_k».proof.Proof.Run

@[expose] public section

set_option synthInstance.maxSize 4096

noncomputable section

namespace Cert.KernelIdeal.Rms

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ### Parts of a buffer -/

/-- A family of disjoint parts that make up the whole. -/
def Parts {X B : Type} [DecidableEq X] [Fintype X] [Fintype B] (J : B → Finset X) : Prop :=
  (∀ b b', b ≠ b' → Disjoint (J b) (J b')) ∧ Finset.univ.biUnion J = Finset.univ

section Parts

variable {ℓ : Loc nD τ sig} {n : ℕ} {J : Fin n → Finset (Idx ℓ)}

/-- A buffer held whole is its parts held. -/
theorem Parts.split (h : Parts J) :
    (iprop(∃ f : Buf (Elt F) ℓ, ℓ ↦{fullShare} f) : sProp 𝕄) ⊢ bigSep Finset.univ fun b : Fin n => iprop(∃ f : Buf (Elt F) ℓ, ℓ ↦[J b]{fullShare} f) := by
  iintro ⟨%f, H⟩
  ihave H' := (Entails.of_eq (Ring.pointsTo_blocks (q := fullShare) J h.1 h.2 f)) $$ H
  iapply (show bigSep Finset.univ (fun b : Fin n => (ℓ ↦[J b]{fullShare} f : sProp 𝕄)) ⊢ bigSep Finset.univ fun b : Fin n => iprop(∃ f : Buf (Elt F) ℓ, ℓ ↦[J b]{fullShare} f) from
    bigSep_each fun b => by iintro H; iexists f; iexact H) $$ H'

/-- The parts held join to the buffer held whole. -/
theorem Parts.join (h : Parts J) (f₀ : Buf (Elt F) ℓ) :
    (bigSep Finset.univ (fun b : Fin n => iprop(∃ f : Buf (Elt F) ℓ, ℓ ↦[J b]{fullShare} f)) : sProp 𝕄) ⊢ iprop(∃ f : Buf (Elt F) ℓ, ℓ ↦{fullShare} f) :=
  Ring.pointsTo_blocks_join_exists J h.1 h.2 f₀

end Parts

/-! ### The slots of the rings -/

/-- The slots of a ring are disjoint and make up its buffer. -/
theorem slots_disjoint {n : ℕ} (inb : ∀ i : Fin n, ∀ a, (![i.val, 0, 0] : Fin 3 → Nat) a + S1x256x4096.size a ≤ (⟨3, ![n, 256, 4096]⟩ : Shape).size a) (b b' : Fin n) (h : b ≠ b') :
    Disjoint (Rect.unit (s := ⟨3, ![n, 256, 4096]⟩) ![b.val, 0, 0] S1x256x4096.size (inb b)).set
      (Rect.unit (s := ⟨3, ![n, 256, 4096]⟩) ![b'.val, 0, 0] S1x256x4096.size (inb b')).set :=
  Ring.lead_disjoint (s := ⟨3, ![n, 256, 4096]⟩) (0 : Fin 3) 1 (fun j : Fin n => (![j.val, 0, 0] : Fin 3 → Nat)) S1x256x4096.size inb (fun j => by simp) rfl b b' h
/-- The slots of a ring cover its buffer. -/
theorem slots_cover {n : ℕ} (inb : ∀ i : Fin n, ∀ a, (![i.val, 0, 0] : Fin 3 → Nat) a + S1x256x4096.size a ≤ (⟨3, ![n, 256, 4096]⟩ : Shape).size a) :
    Finset.univ.biUnion (fun b : Fin n => (Rect.unit (s := ⟨3, ![n, 256, 4096]⟩) ![b.val, 0, 0] S1x256x4096.size (inb b)).set) = Finset.univ :=
  Ring.lead_cover (s := ⟨3, ![n, 256, 4096]⟩) (0 : Fin 3) 1 (fun j : Fin n => (![j.val, 0, 0] : Fin 3 → Nat)) S1x256x4096.size inb (fun j => by simp)
    (fun j a ha => by fin_cases a <;> first | exact absurd rfl ha | rfl) rfl (fun a ha => by fin_cases a <;> first | exact absurd rfl ha | rfl) (Nat.mul_one n)

/-- Where a ring's slot lies in its buffer. -/
theorem set_slot {b : Ref sig .tc} (r : Rect b.ty.shape) (s' : Shape) (h : s'.numel = r.shape.numel) :
    ((View.whole b : View sig .tc _ _ _).slice r |>.reshape s' h).set = r.set := by rw [View.set_reshape, View.set_slice_whole]

/-- The slots of the ring sent along `x` are disjoint and make up its buffer. -/
theorem parts_xs : Parts (X := S2x256x4096.Idx) fun i : Fin 2 => (vXs i).view.set := by
  rw [show (fun i : Fin 2 => ((vXs i).view.set : Finset S2x256x4096.Idx)) = fun i => (r2 i).set from funext fun i => set_slot _ _ _]
  exact ⟨slots_disjoint inb2, slots_cover inb2⟩
/-- The slots received along `x` are disjoint and make up their buffer. -/
theorem parts_xr : Parts (X := S8x256x4096.Idx) fun i : Fin 8 => (vXr i).view.set := by
  rw [show (fun i : Fin 8 => ((vXr i).view.set : Finset S8x256x4096.Idx)) = fun i => (r8 i).set from funext fun i => set_slot _ _ _]
  exact ⟨slots_disjoint inb8, slots_cover inb8⟩
/-- The slots of the ring sent along `y` are disjoint and make up its buffer. -/
theorem parts_ys : Parts (X := S2x256x4096.Idx) fun i : Fin 2 => (vYs i).view.set := by
  rw [show (fun i : Fin 2 => ((vYs i).view.set : Finset S2x256x4096.Idx)) = fun i => (r2 i).set from funext fun i => set_slot _ _ _]
  exact ⟨slots_disjoint inb2, slots_cover inb2⟩
/-- The slots of the partial sums' ring are disjoint and make up its buffer. -/
theorem parts_pc : Parts (X := S3x256x4096.Idx) fun i : Fin 3 => (vPc i).view.set := by
  rw [show (fun i : Fin 3 => ((vPc i).view.set : Finset S3x256x4096.Idx)) = fun i => (r3 i).set from funext fun i => set_slot _ _ _]
  exact ⟨slots_disjoint inb3, slots_cover inb3⟩
/-- The slots of the residual's ring are disjoint and make up its buffer. -/
theorem parts_rc : Parts (X := S2x256x4096.Idx) fun i : Fin 2 => (vRc i).view.set := by
  rw [show (fun i : Fin 2 => ((vRc i).view.set : Finset S2x256x4096.Idx)) = fun i => (r2 i).set from funext fun i => set_slot _ _ _]
  exact ⟨slots_disjoint inb2, slots_cover inb2⟩
/-- The slots of the results' ring are disjoint and make up its buffer. -/
theorem parts_oc : Parts (X := S3x256x4096.Idx) fun i : Fin 3 => (vOc i).view.set := by
  rw [show (fun i : Fin 3 => ((vOc i).view.set : Finset S3x256x4096.Idx)) = fun i => (r3 i).set from funext fun i => set_slot _ _ _]
  exact ⟨slots_disjoint inb3, slots_cover inb3⟩
/-- The one slot for the neighbour's rows is its whole buffer. -/
theorem set_yc : (vYc.view.set : Finset S1x256x4096.Idx) = Finset.univ := by
  have h : (r1 0).set = Finset.univ := by
    rw [← slots_cover inb1, Finset.univ_unique, Finset.singleton_biUnion]; rfl
  exact (set_slot _ _ _).trans h

/-- The rows the neighbour along `y` writes are disjoint and make up their array. -/
theorem parts_yr : Parts (X := S2048x4096.Idx) fun k : Fin 8 => (vYr k).view.set := by
  rw [show (fun k : Fin 8 => ((vYr k).view.set : Finset S2048x4096.Idx)) = fun k => (rY k).set from funext fun k => View.set_slice_whole _ _]
  exact ⟨Ring.lead_disjoint (s := S2048x4096) (0 : Fin 2) 256 (fun k : Fin 8 => (![256 * k.val, 0] : Fin 2 → Nat)) S256x4096.size inbY (fun _ => rfl) rfl,
    Ring.lead_cover (s := S2048x4096) (0 : Fin 2) 256 (fun k : Fin 8 => (![256 * k.val, 0] : Fin 2 → Nat)) S256x4096.size inbY (fun _ => rfl)
      (fun j a ha => by fin_cases a <;> first | exact absurd rfl ha | rfl) rfl (fun a ha => by fin_cases a <;> first | exact absurd rfl ha | rfl) rfl⟩

/-- The scratch buffers of device `c`, each whole. -/
def Scratch (c : Dev nD) : sProp 𝕄 := Pipeline.scopedRest spec0 c

/-- The same in slots. -/
def Slots (c : Dev nD) : sProp 𝕄 :=
  iprop((bigSep Finset.univ fun i : Fin 2 => Free c (vXs i)) ∗ (bigSep Finset.univ fun k : Fin 8 => Free c (vXr k))
    ∗ (bigSep Finset.univ fun i : Fin 2 => Free c (vYs i)) ∗ Free c vYc
    ∗ (bigSep Finset.univ fun i : Fin 3 => Free c (vPc i)) ∗ (bigSep Finset.univ fun i : Fin 2 => Free c (vRc i))
    ∗ (bigSep Finset.univ fun i : Fin 3 => Free c (vOc i)))

/-- The scratch buffers, whole, give their slots. -/
theorem scratch_slots (c : Dev nD) : (Scratch c : sProp 𝕄) ⊢ Slots c := by
  unfold Scratch Slots
  rw [scopedRest0_eq]
  have h3 : (iprop(∃ f : Buf (Elt F) ((c : Thread nD τ).loc cc0_scratch3), ((c : Thread nD τ).loc cc0_scratch3) ↦{fullShare} f) : sProp 𝕄) ⊢ Free c vYc := by
    unfold Free
    rw [show vYc.view.set = Finset.univ from set_yc]
  iintro ⟨H0, H1, H2, H3, H4, H5, H6⟩
  isplitl [H0]; · iapply (Parts.split (ℓ := (c : Thread nD τ).loc cc0_scratch0) parts_xs) $$ H0
  isplitl [H1]; · iapply (Parts.split (ℓ := (c : Thread nD τ).loc cc0_scratch1) parts_xr) $$ H1
  isplitl [H2]; · iapply (Parts.split (ℓ := (c : Thread nD τ).loc cc0_scratch2) parts_ys) $$ H2
  isplitl [H3]; · iapply h3 $$ H3
  isplitl [H4]; · iapply (Parts.split (ℓ := (c : Thread nD τ).loc cc0_scratch4) parts_pc) $$ H4
  isplitl [H5]; · iapply (Parts.split (ℓ := (c : Thread nD τ).loc cc0_scratch5) parts_rc) $$ H5
  iapply (Parts.split (ℓ := (c : Thread nD τ).loc cc0_scratch6) parts_oc) $$ H6

/-- The slots give the scratch buffers back, whole. -/
theorem slots_scratch (c : Dev nD) : (Slots c : sProp 𝕄) ⊢ Scratch c := by
  unfold Scratch Slots Free
  rw [scopedRest0_eq]
  have h3 : (iprop(∃ f : Buf (Elt F) (vYc.view.loc (c : Thread nD τ)), (vYc.view.loc (c : Thread nD τ) ↦[vYc.view.set]{fullShare} f)) : sProp 𝕄) ⊢ iprop(∃ f : Buf (Elt F) ((c : Thread nD τ).loc cc0_scratch3), ((c : Thread nD τ).loc cc0_scratch3) ↦{fullShare} f) := by
    rw [show vYc.view.set = Finset.univ from set_yc]
  iintro ⟨H0, H1, H2, H3, H4, H5, H6⟩
  isplitl [H0]; · iapply (Parts.join (ℓ := (c : Thread nD τ).loc cc0_scratch0) parts_xs fun _ => FloatOps.ofBits .bf16 0) $$ H0
  isplitl [H1]; · iapply (Parts.join (ℓ := (c : Thread nD τ).loc cc0_scratch1) parts_xr fun _ => FloatOps.ofBits .bf16 0) $$ H1
  isplitl [H2]; · iapply (Parts.join (ℓ := (c : Thread nD τ).loc cc0_scratch2) parts_ys fun _ => FloatOps.ofBits .bf16 0) $$ H2
  isplitl [H3]; · iapply h3 $$ H3
  isplitl [H4]; · iapply (Parts.join (ℓ := (c : Thread nD τ).loc cc0_scratch4) parts_pc fun _ => FloatOps.ofBits .f32 0) $$ H4
  isplitl [H5]; · iapply (Parts.join (ℓ := (c : Thread nD τ).loc cc0_scratch5) parts_rc fun _ => FloatOps.ofBits .f32 0) $$ H5
  iapply (Parts.join (ℓ := (c : Thread nD τ).loc cc0_scratch6) parts_oc fun _ => FloatOps.ofBits .f32 0) $$ H6

/-- The array the neighbour along `y` writes gives its eight chunks, each free. -/
theorem yr_slots (c : Dev nD) : (iprop(∃ f : Buf (Elt F) ((c : Thread nD τ).loc main_v3_1), ((c : Thread nD τ).loc main_v3_1) ↦{fullShare} f) : sProp 𝕄)
    ⊢ bigSep Finset.univ fun k : Fin 8 => Free c (vYr k) := Parts.split (ℓ := (c : Thread nD τ).loc main_v3_1) parts_yr

/-! ### The chunks of the arrays -/

/-- An index is in 256 whole rows from row `a` when its row is. -/
theorem mem_rows {off : Fin 2 → ℕ} {inb} {a : ℕ} (h : off = ![a, 0]) (i : S4096x4096.Idx) :
    i ∈ (Rect.unit (s := S4096x4096) off S256x4096.size inb).set ↔ a ≤ (i 0).val ∧ (i 0).val < a + 256 := by
  subst h
  rw [Rect.mem_set_unit]
  refine ⟨fun H => H 0, fun H a => ?_⟩
  fin_cases a
  · exact H
  · exact ⟨Nat.zero_le _, by have := (i 1).isLt; show (i 1).val < 0 + 4096; rw [Nat.zero_add]; exact this⟩

/-- The rows of a device's own chunk `k`. -/
theorem mem_own (c : Dev nD) (k : Fin 8) (i : S4096x4096.Idx) :
    i ∈ (rOwn c k).set ↔ 2048 * (c.val % 2) + 256 * k.val ≤ (i 0).val ∧ (i 0).val < 2048 * (c.val % 2) + 256 * k.val + 256 := mem_rows (k0_off1_eq c k) i
/-- The rows of chunk `k` of the neighbour along `y`. -/
theorem mem_other (c : Dev nD) (k : Fin 8) (i : S4096x4096.Idx) :
    i ∈ (rOther c k).set ↔ 2048 + 256 * k.val - 2048 * (c.val % 2) ≤ (i 0).val ∧ (i 0).val < 2048 + 256 * k.val - 2048 * (c.val % 2) + 256 :=
  mem_rows ((k0_off2_eq c k).trans (by rw [show 2048 + 256 * k.val = 256 * k.val + 2048 from Nat.add_comm _ _])) i

/-- The chunks of a device's own rows, then those of its neighbour's. -/
def chunk (c : Dev nD) : Fin 8 ⊕ Fin 8 → Finset S4096x4096.Idx := Sum.elim (fun k => (rOwn c k).set) (fun k => (rOther c k).set)

/-- The own and the neighbour's chunks are disjoint and make up the result. -/
theorem parts_chunk (c : Dev nD) : Parts (chunk c) := by
  have hc : c.val % 2 < 2 := Nat.mod_lt _ (by decide)
  constructor
  · intro b b' h
    rw [Finset.disjoint_left]
    intro i hi hi'
    rcases b with k | k <;> rcases b' with k' | k' <;>
      simp only [chunk, Sum.elim_inl, Sum.elim_inr, mem_own, mem_other] at hi hi' <;>
      [refine h (congrArg _ (Fin.ext ?_)); skip; skip; refine h (congrArg _ (Fin.ext ?_))] <;>
      (have := k.isLt; have := k'.isLt; omega)
  · ext i
    simp only [Finset.mem_biUnion, Finset.mem_univ, true_and, iff_true]
    have hi : (i 0).val < 4096 := (i 0).isLt
    by_cases h : (i 0).val / 2048 = c.val % 2
    · refine ⟨.inl ⟨(i 0).val / 256 % 8, Nat.mod_lt _ (by decide)⟩, (mem_own _ _ _).mpr ?_⟩
      dsimp only; omega
    · refine ⟨.inr ⟨(i 0).val / 256 % 8, Nat.mod_lt _ (by decide)⟩, (mem_other _ _ _).mpr ?_⟩
      dsimp only; omega

/-- The rows of an array the size of the result that device `c` neither reads nor writes as its own. -/
def Rest (c : Dev nD) (b : Ref sig .tc) (J : Fin 8 → Finset (Idx ((c : Thread nD τ).loc b))) (f : Buf (Elt F) ((c : Thread nD τ).loc b)) : sProp 𝕄 :=
  bigSep Finset.univ fun k : Fin 8 => ((c : Thread nD τ).loc b) ↦[J k]{fullShare} f

/-- The partial sums held whole: the chunks the device reads, and the rest. -/
theorem part_chunks (c : Dev nD) (f : Buf (Elt F) ((c : Thread nD τ).loc main_v1)) :
    (((c : Thread nD τ).loc main_v1) ↦{fullShare} f : sProp 𝕄)
      = iprop((bigSep Finset.univ fun k : Fin 8 => ((vPart c k).view.loc (c : Thread nD τ)) ↦[(vPart c k).view.set]{fullShare} f)
        ∗ Rest c main_v1 (fun k => (rOther c k).set) f) := by
  rw [Ring.pointsTo_blocks (ℓ := (c : Thread nD τ).loc main_v1) (chunk c) (parts_chunk c).1 (parts_chunk c).2, bigSep_univ_sum]
  refine congrArg₂ (fun A B : sProp 𝕄 => iprop(A ∗ B)) (congrArg (bigSep Finset.univ) (funext fun k => ?_)) rfl
  rw [show ((vPart c k).view.set : Finset S4096x4096.Idx) = (rOwn c k).set from View.set_slice_whole _ _]; rfl
/-- The residual likewise. -/
theorem res_chunks (c : Dev nD) (f : Buf (Elt F) ((c : Thread nD τ).loc main_arg1)) :
    (((c : Thread nD τ).loc main_arg1) ↦{fullShare} f : sProp 𝕄)
      = iprop((bigSep Finset.univ fun k : Fin 8 => ((vRes c k).view.loc (c : Thread nD τ)) ↦[(vRes c k).view.set]{fullShare} f)
        ∗ Rest c main_arg1 (fun k => (rOther c k).set) f) := by
  rw [Ring.pointsTo_blocks (ℓ := (c : Thread nD τ).loc main_arg1) (chunk c) (parts_chunk c).1 (parts_chunk c).2, bigSep_univ_sum]
  refine congrArg₂ (fun A B : sProp 𝕄 => iprop(A ∗ B)) (congrArg (bigSep Finset.univ) (funext fun k => ?_)) rfl
  rw [show ((vRes c k).view.set : Finset S4096x4096.Idx) = (rOwn c k).set from View.set_slice_whole _ _]; rfl
/-- The result held whole: the device's own chunks, and its neighbour's. -/
theorem out_chunks (c : Dev nD) (f : Buf (Elt F) ((c : Thread nD τ).loc main_v3_0)) :
    (((c : Thread nD τ).loc main_v3_0) ↦{fullShare} f : sProp 𝕄)
      = iprop((bigSep Finset.univ fun k : Fin 8 => ((vOwn c k).view.loc (c : Thread nD τ)) ↦[(vOwn c k).view.set]{fullShare} f)
        ∗ bigSep Finset.univ fun k : Fin 8 => ((vOther c k).view.loc (c : Thread nD τ)) ↦[(vOther c k).view.set]{fullShare} f) := by
  rw [Ring.pointsTo_blocks (ℓ := (c : Thread nD τ).loc main_v3_0) (chunk c) (parts_chunk c).1 (parts_chunk c).2, bigSep_univ_sum]
  refine congrArg₂ (fun A B : sProp 𝕄 => iprop(A ∗ B)) (congrArg (bigSep Finset.univ) (funext fun k => ?_)) (congrArg (bigSep Finset.univ) (funext fun k => ?_))
  · rw [show ((vOwn c k).view.set : Finset S4096x4096.Idx) = (rOwn c k).set from View.set_slice_whole _ _]; rfl
  · rw [show ((vOther c k).view.set : Finset S4096x4096.Idx) = (rOther c k).set from View.set_slice_whole _ _]; rfl

/-! ### The sixteen stores -/

/-- The number of the store that writes a device's own chunk `k`, and of the one that writes its neighbour's. -/
def storeNo : Fin 8 ⊕ Fin 8 → Fin 16 :=
  Sum.elim ![0, 1, 2, 4, 6, 8, 10, 12] ![3, 5, 7, 9, 11, 13, 14, 15]

/-- Every store is of one chunk, own or the neighbour's, and every chunk is stored once. -/
theorem storeNo_bij : Function.Bijective storeNo := by
  constructor
  · intro a b; revert a b; decide
  · intro n; revert n; decide

/-- The store of own chunk `k` goes to the own rows of chunk `k`. -/
theorem outDst_own (c : Dev nD) : ∀ k : Fin 8, outDst c (storeNo (.inl k)) = vOwn c k := fun k => by
  fin_cases k <;> rfl
/-- The store of the neighbour's chunk `k` goes to the neighbour's rows of chunk `k`. -/
theorem outDst_other (c : Dev nD) : ∀ k : Fin 8, outDst c (storeNo (.inr k)) = vOther c k := fun k => by
  fin_cases k <;> rfl
/-- What the store of own chunk `k` writes is the normalised chunk. -/
theorem W_own (I : Ins F) (c : Dev nD) : ∀ k : Fin 8, I.W c (storeNo (.inl k)) = I.O c k := fun k => by
  fin_cases k <;> rfl
/-- What the store of the neighbour's chunk `k` writes is what came along `y`. -/
theorem W_other (I : Ins F) (c : Dev nD) : ∀ k : Fin 8, I.W c (storeNo (.inr k)) = I.Z c k := fun k => by
  fin_cases k <;> rfl

/-- Over the stores is over the own chunks and over the neighbour's. -/
theorem stores_eq (Φ : Fin 16 → sProp 𝕄) :
    bigSep Finset.univ Φ = iprop((bigSep Finset.univ fun k => Φ (storeNo (.inl k))) ∗ bigSep Finset.univ fun k => Φ (storeNo (.inr k))) := by
  rw [bigSep_univ_equiv (Equiv.ofBijective storeNo storeNo_bij) Φ, bigSep_univ_sum]; rfl

/-- The result held whole, whatever it reads, is the sixteen chunks held. -/
theorem out_split (c : Dev nD) (f : Buf (Elt F) ((c : Thread nD τ).loc main_v3_0)) :
    (((c : Thread nD τ).loc main_v3_0) ↦{fullShare} f : sProp 𝕄) ⊢ bigSep Finset.univ fun m : Fin 16 => Free c (outDst c m) := by
  rw [out_chunks, stores_eq, show (fun k : Fin 8 => (Free c (outDst c (storeNo (.inl k))) : sProp 𝕄)) = fun k => Free c (vOwn c k) from funext fun k => by rw [outDst_own],
    show (fun k : Fin 8 => (Free c (outDst c (storeNo (.inr k))) : sProp 𝕄)) = fun k => Free c (vOther c k) from funext fun k => by rw [outDst_other]]
  unfold Free
  iintro ⟨H, H'⟩
  isplitl [H]
  · iapply (show (bigSep Finset.univ fun k : Fin 8 => (((vOwn c k).view.loc (c : Thread nD τ)) ↦[(vOwn c k).view.set]{fullShare} f : sProp 𝕄)) ⊢ bigSep Finset.univ fun k : Fin 8 =>
      iprop(∃ g : Buf (Elt F) ((vOwn c k).view.loc (c : Thread nD τ)), ((vOwn c k).view.loc (c : Thread nD τ)) ↦[(vOwn c k).view.set]{fullShare} g) from
      bigSep_each fun k => by iintro H; iexists f; iexact H) $$ H
  · iapply (show (bigSep Finset.univ fun k : Fin 8 => (((vOther c k).view.loc (c : Thread nD τ)) ↦[(vOther c k).view.set]{fullShare} f : sProp 𝕄)) ⊢ bigSep Finset.univ fun k : Fin 8 =>
      iprop(∃ g : Buf (Elt F) ((vOther c k).view.loc (c : Thread nD τ)), ((vOther c k).view.loc (c : Thread nD τ)) ↦[(vOther c k).view.set]{fullShare} g) from
      bigSep_each fun k => by iintro H; iexists f; iexact H) $$ H'

/-- The row of a chunk, and the chunk, a row of the result is in. -/
def inChunk (i : S4096x4096.Idx) : S256x4096.Idx
  | 0 => ⟨(i 0).val % 256, Nat.mod_lt _ (by decide)⟩
  | 1 => ⟨(i 1).val, (i 1).isLt⟩
def chunkNo (i : S4096x4096.Idx) : Fin 8 := ⟨(i 0).val / 256 % 8, Nat.mod_lt _ (by decide)⟩

/-- The result of device `c`: in its own rows what it computed, in its neighbour's what the neighbour sent. -/
def outArr (I : Ins F) (c : Dev nD) : FVec F S4096x4096 .f32 := fun i =>
  if (i 0).val / 2048 = c.val % 2 then I.O c (chunkNo i) (inChunk i) else I.Z c (chunkNo i) (inChunk i)

/-- The row in the array of a row of the chunk that starts at row `a`. -/
theorem rows_emb {off : Fin 2 → ℕ} {inb} {a : ℕ} (h : off = ![a, 0]) (x : S256x4096.Idx) :
    (((Rect.unit (s := S4096x4096) off S256x4096.size inb).emb x) 0).val = a + (x 0).val
      ∧ (((Rect.unit (s := S4096x4096) off S256x4096.size inb).emb x) 1).val = (x 1).val := by
  subst h
  refine ⟨?_, ?_⟩
  · show a + 1 * (x 0).val = _; rw [Nat.one_mul]
  · show 0 + 1 * (x 1).val = _; rw [Nat.one_mul, Nat.zero_add]

/-- A row of chunk `k` of a half of the array is in that half, in chunk `k`, and the row of the chunk it is. -/
theorem chunk_of {i : S4096x4096.Idx} {x : S256x4096.Idx} {k : Fin 8} {h : ℕ} (h0 : (i 0).val = 2048 * h + 256 * k.val + (x 0).val) (h1 : (i 1).val = (x 1).val) :
    (i 0).val / 2048 = h ∧ chunkNo i = k ∧ inChunk i = x := by
  have hx : (x 0).val < 256 := (x 0).isLt
  have hk := k.isLt
  refine ⟨by omega, Fin.ext (by show (i 0).val / 256 % 8 = k.val; omega), funext fun a => ?_⟩
  fin_cases a
  · exact Fin.ext (by show (i 0).val % 256 = (x 0).val; omega)
  · exact Fin.ext h1

/-- The result at the own rows of chunk `k` is the normalised chunk. -/
theorem read_own (I : Ins F) (c : Dev nD) (k : Fin 8) : (vOwn c k).view.read (Elt F) (outArr I c) = I.O c k := by
  funext x
  obtain ⟨e0, e1⟩ := rows_emb (inb := k0_off1_inb c k) (k0_off1_eq c k) x
  obtain ⟨hh, hk, hx⟩ := chunk_of e0 e1
  show outArr I c ((rOwn c k).emb x) = _
  unfold outArr
  rw [if_pos hh, hk, hx]
/-- The result at the neighbour's rows of chunk `k` is what came along `y`. -/
theorem read_other (I : Ins F) (c : Dev nD) (k : Fin 8) : (vOther c k).view.read (Elt F) (outArr I c) = I.Z c k := by
  have hc : c.val % 2 < 2 := Nat.mod_lt _ (by decide)
  funext x
  obtain ⟨e0, e1⟩ := rows_emb (inb := k0_off2_inb c k) (k0_off2_eq c k) x
  obtain ⟨hh, hk, hx⟩ := chunk_of (h := 1 - c.val % 2) (k := k) (x := x) (e0.trans (by omega)) e1
  show outArr I c ((rOther c k).emb x) = _
  unfold outArr
  rw [if_neg (by rw [hh]; omega), hk, hx]

/-- The sixteen chunks stored are the result held whole. -/
theorem out_join (I : Ins F) (c : Dev nD) :
    (bigSep Finset.univ (fun m : Fin 16 => Holds c (outDst c m) (I.W c m)) : sProp 𝕄) ⊢ (((c : Thread nD τ).loc main_v3_0) ↦{fullShare} (outArr I c : Buf (Elt F) ((c : Thread nD τ).loc main_v3_0))) := by
  rw [out_chunks, stores_eq,
    show (fun k : Fin 8 => (Holds c (outDst c (storeNo (.inl k))) (I.W c (storeNo (.inl k))) : sProp 𝕄)) = fun k => Holds c (vOwn c k) ((vOwn c k).view.read (Elt F) (outArr I c)) from
      funext fun k => by rw [outDst_own, W_own, read_own],
    show (fun k : Fin 8 => (Holds c (outDst c (storeNo (.inr k))) (I.W c (storeNo (.inr k))) : sProp 𝕄)) = fun k => Holds c (vOther c k) ((vOther c k).view.read (Elt F) (outArr I c)) from
      funext fun k => by rw [outDst_other, W_other, read_other]]
  iintro ⟨H, H'⟩
  isplitl [H]
  · iapply (bigSep_each (Φ := fun k : Fin 8 => Holds c (vOwn c k) ((vOwn c k).view.read (Elt F) (outArr I c))) fun k => Holds.elim c (vOwn c k) (outArr I c)) $$ H
  · iapply (bigSep_each (Φ := fun k : Fin 8 => Holds c (vOther c k) ((vOther c k).view.read (Elt F) (outArr I c))) fun k => Holds.elim c (vOther c k) (outArr I c)) $$ H'

end Cert.KernelIdeal.Rms

end
-- ==== Proof.Cells.lean ====
/-
  The kernel's semaphores from its entry to its end.

  The counters a kernel owns are handed to it at zero and must be handed back at zero. Twenty of them carry the
  exchanges: their cells are opened as the kernel is entered and closed at its end, when every round is over. The
  other nine serve a device's own transfers.
-/
module

public import proofs.«01_k».proof.Proof.Arrays

@[expose] public section

set_option synthInstance.maxSize 4096

noncomputable section

namespace Cert.KernelIdeal.Rms

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ### The counters the kernel owns -/

/-- The counters of a device's own transfers: of the partial sums, the residual, the staged rows and the result. -/
abbrev OwnIx : Type := Fin 3 ⊕ Fin 2 ⊕ Unit ⊕ Fin 3

/-- Their counters. -/
def ownSem : OwnIx → DmaSem sig
  | .inl i => pS i
  | .inr (.inl i) => rS i
  | .inr (.inr (.inl _)) => yS
  | .inr (.inr (.inr i)) => oS i

/-- Every counter the kernel owns: those of the exchanges, then its own transfers'. -/
def osem : Fin 20 ⊕ OwnIx → SemLoc sig
  | .inl j => .dma ⟨1 + j.val, by have := j.isLt; show _ < 30; omega⟩
  | .inr q => .dma (ownSem q)

/-- Those of its own transfers at zero. -/
def OwnZero (c : Dev nD) : sProp 𝕄 :=
  iprop((bigSep (Finset.univ : Finset (Fin 3)) fun i => semVal ((c : Thread nD τ), .dma (pS i)) 0)
    ∗ (bigSep (Finset.univ : Finset (Fin 2)) fun i => semVal ((c : Thread nD τ), .dma (rS i)) 0)
    ∗ semVal ((c : Thread nD τ), .dma yS) 0
    ∗ (bigSep (Finset.univ : Finset (Fin 3)) fun i => semVal ((c : Thread nD τ), .dma (oS i)) 0))

/-- A device's semaphores at zero are its exchange cells at zero and its own copies' at zero. -/
theorem ownSems_eq (c : Dev nD) :
    (Pipeline.ownSems0 osem c : sProp 𝕄) = iprop((bigSep (Finset.univ : Finset (Fin 20)) fun j => semVal (scC c j) 0) ∗ OwnZero c) := by
  unfold Pipeline.ownSems0 OwnZero
  rw [bigSep_univ_sum, bigSep_univ_sum, bigSep_univ_sum, bigSep_univ_sum, Finset.univ_unique (α := Unit), bigSep_singleton]
  rfl

/-- The cells of the exchanges by what they count: departures and arrivals along `x`, then along `y`. -/
def cellNo : Fin 2 ⊕ Fin 8 ⊕ Fin 2 ⊕ Fin 8 → Fin 20
  | .inl i => ⟨i.val, by omega⟩
  | .inr (.inl k) => ⟨2 + k.val, by omega⟩
  | .inr (.inr (.inl i)) => ⟨10 + i.val, by omega⟩
  | .inr (.inr (.inr k)) => ⟨12 + k.val, by omega⟩

/-- Every semaphore of the kernel has one number. -/
theorem cellNo_bij : Function.Bijective cellNo := by decide

/-- `Φ` of each cell of the exchanges, kind by kind. -/
theorem cells_eq (c : Dev nD) (Φ : GSem nD τ sig → sProp 𝕄) :
    (bigSep (Finset.univ : Finset (Fin 20)) fun j => Φ (scC c j))
      = iprop((bigSep (Finset.univ : Finset (Fin 2)) fun i => Φ (xsC c i)) ∗ (bigSep (Finset.univ : Finset (Fin 8)) fun k => Φ (xrC c k))
        ∗ (bigSep (Finset.univ : Finset (Fin 2)) fun i => Φ (ysC c i)) ∗ (bigSep (Finset.univ : Finset (Fin 8)) fun k => Φ (yrC c k))) := by
  rw [bigSep_univ_equiv (Equiv.ofBijective cellNo cellNo_bij), bigSep_univ_sum, bigSep_univ_sum, bigSep_univ_sum]
  simp only [← scC_xr c, ← scC_ys c, ← scC_yr c]
  rfl

variable (I : Ins F) (κ : GSem nD τ sig → ℕ) (c : Dev nD)

/-! ### Opening -/

/-- Each of the exchanges' cells is opened on its counter at zero. -/
theorem open_cells :
    iprop(Ctx I κ ∗ (bigSep (Finset.univ : Finset (Fin 20)) fun j => openTok ER (scC c j)) ∗ bigSep (Finset.univ : Finset (Fin 20)) fun j => semVal (scC c j) 0)
      ⊢ (|={Set.univ}=> bigSep (Finset.univ : Finset (Fin 20)) fun j => iprop(atPos ER (scC c j) 0 ∅ 0 ∗ reached ER (scC c j) 0) : sProp 𝕄) := by
  refine (sep_mono_right (Entails.of_eq (bigSep_sep' _ _ _).symm)).trans ?_
  refine (bigSep_with_persistent (R := Ctx I κ) (Ψ := fun j => iprop(|={Set.univ}=> (atPos ER (scC c j) 0 ∅ 0 ∗ reached ER (scC c j) 0))) fun j _ => ?_).trans
    (bigSep_fupd _ _)
  iintro ⟨HC, Ho, Hv⟩
  ihave HC := (ctx_sc I κ c j) $$ HC
  iapply (Rounds.cell_open ER (RI I) (g := scC c j) (Set.mem_univ (κ (scC c j)))) $$ [HC Ho Hv]
  isplitl [HC]; · iexact HC
  isplitl [Ho] <;> iassumption

/-! ### Closing -/

variable {I κ}

/-- A cell whose rounds are over gives its counter back at zero. -/
theorem close_cell {g : GSem nD τ sig} {R : ℕ} (hg : (Ctx I κ : sProp 𝕄) ⊢ cellInv ER (RI I) (κ g) g) (h : ∀ r, R ≤ r → (RI I).duties g r = ∅) :
    iprop(Ctx I κ ∗ atPos ER g R ∅ 0) ⊢ (|={Set.univ}=> semVal g 0 : sProp 𝕄) :=
  (sep_mono_left hg).trans (Rounds.cell_close ER (RI I) (Set.mem_univ (κ g)) id h)

/-- A family of such cells. -/
theorem close_cells {n : ℕ} {g : Fin n → GSem nD τ sig} {R : ℕ} (hg : ∀ i, (Ctx I κ : sProp 𝕄) ⊢ cellInv ER (RI I) (κ (g i)) (g i))
    (h : ∀ i, ∀ r, R ≤ r → (RI I).duties (g i) r = ∅) :
    iprop(Ctx I κ ∗ bigSep Finset.univ fun i => atPos ER (g i) R ∅ 0) ⊢ (|={Set.univ}=> bigSep Finset.univ fun i => semVal (g i) 0 : sProp 𝕄) :=
  (bigSep_with_persistent (R := Ctx I κ) (Ψ := fun i => iprop(|={Set.univ}=> semVal (g i) 0)) fun i _ => close_cell (hg i) (h i)).trans (bigSep_fupd _ _)

variable (I κ)

/-- The places of the exchanges' cells once every round is over. -/
def Over : sProp 𝕄 :=
  iprop((bigSep (Finset.univ : Finset (Fin 2)) fun i => atPos ER (xsC c i) 4 ∅ 0) ∗ (bigSep (Finset.univ : Finset (Fin 8)) fun k => atPos ER (xrC c k) 1 ∅ 0)
    ∗ (bigSep (Finset.univ : Finset (Fin 2)) fun i => atPos ER (ysC c i) 4 ∅ 0) ∗ (bigSep (Finset.univ : Finset (Fin 8)) fun k => atPos ER (yrC c k) 1 ∅ 0))

/-- When all rounds are over the exchange cells close, each at zero. -/
theorem close_all : iprop(Ctx I κ ∗ Over c) ⊢ (|={Set.univ}=> bigSep (Finset.univ : Finset (Fin 20)) fun j => semVal (scC c j) 0 : sProp 𝕄) := by
  rw [cells_eq c fun g => semVal g 0]
  unfold Over
  iintro ⟨#HC, Hxs, Hxr, Hys, Hyr⟩
  imod (close_cells (ctx_xs I κ c) (over_xs _ _ c)) $$ [Hxs] with Hxs
  · isplitr; · iexact HC
    iexact Hxs
  imod (close_cells (ctx_xr I κ c) (over_xr _ _ c)) $$ [Hxr] with Hxr
  · isplitr; · iexact HC
    iexact Hxr
  imod (close_cells (ctx_ys I κ c) (over_ys _ _ c)) $$ [Hys] with Hys
  · isplitr; · iexact HC
    iexact Hys
  imod (close_cells (ctx_yr I κ c) (over_yr _ _ c)) $$ [Hyr] with Hyr
  · isplitr; · iexact HC
    iexact Hyr
  imodintro
  isplitl [Hxs]; · iexact Hxs
  isplitl [Hxr]; · iexact Hxr
  isplitl [Hys] <;> iassumption

end Cert.KernelIdeal.Rms

end
-- ==== Proof.BodyEq.lean ====
/-
  The printed body is the sequence of stages of `Program`.
-/
module

public import proofs.«01_k».proof.Proof.Program

@[expose] public section

set_option synthInstance.maxSize 4096

noncomputable section

namespace Cert.KernelIdeal.Rms

open Idealize.ShloMosaic Idealize.SL.Sem Cert.KernelIdeal Cert.KernelIdeal.Gen

variable {F : FTy → Type} [FloatOps F]

set_option maxRecDepth 65536 in
/-- The printed body at the region's one point is `body`. -/
theorem body_eq (t : Fin cfg0.N) : bodyAt0 (F := F) t = body := by
  rfl

end Cert.KernelIdeal.Rms

end
-- ==== Proof.Entry.lean ====
/-
  The kernel's body from its buffers and cells to its result.

  A device enters with its whole buffers, its cells opened and its part of the exchanges' duties and credits. Here these
  are split into what the stages start from, and what the stages leave is put together again: the buffers whole, the
  result holding its sixteen chunks, every counter back at zero.
-/
module

public import proofs.«01_k».proof.Proof.Cells
public import proofs.«01_k».proof.Proof.BodyEq

@[expose] public section

set_option synthInstance.maxSize 4096

noncomputable section

namespace Cert.KernelIdeal.Rms

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ### Two families as one -/

/-- Two families over the same numbers make one of pairs. -/
theorem zip {n : ℕ} {Φ Ψ : Fin n → sProp 𝕄} :
    iprop(bigSep Finset.univ Φ ∗ bigSep Finset.univ Ψ) ⊢ bigSep Finset.univ fun i => iprop(Φ i ∗ Ψ i) := Entails.of_eq (bigSep_sep' _ _ _).symm
/-- A family of pairs makes two families. -/
theorem unzip {n : ℕ} {Φ Ψ : Fin n → sProp 𝕄} :
    (bigSep Finset.univ fun i => iprop(Φ i ∗ Ψ i)) ⊢ iprop(bigSep Finset.univ Φ ∗ bigSep Finset.univ Ψ) := Entails.of_eq (bigSep_sep' _ _ _)

variable (c : Dev nD)

/-! ### What a device enters with -/

/-- Its duties: the signals to both neighbours, and every send. -/
def Duties : sProp 𝕄 :=
  iprop((dutyTok ER (barC (xn c)) 0 true ∗ dutyTok ER (barC (yn c)) 0 false)
    ∗ (bigSep (Finset.univ : Finset (Fin 8)) (XTok c)) ∗ (bigSep (Finset.univ : Finset (Fin 8)) (YTok c)))

/-- Its credits: two signals, and eight arrivals along each axis. -/
def Creds : sProp 𝕄 :=
  iprop(cred (tallyAt (barC c) () 2) ∗ (bigSep (Finset.univ : Finset (Fin 8)) fun k => cred (tallyAt (xrC c k) () N))
    ∗ bigSep (Finset.univ : Finset (Fin 8)) fun k => cred (tallyAt (yrC c k) () N))

/-- All of it, its cells opened. -/
def Entry : sProp 𝕄 :=
  iprop(atPos ER (barC c) 0 ∅ 0 ∗ (bigSep (Finset.univ : Finset (Fin 20)) fun j => iprop(atPos ER (scC c j) 0 ∅ 0 ∗ reached ER (scC c j) 0))
    ∗ Duties c ∗ Creds c ∗ OwnZero c)

/-- The chunks a buffer reads, of the buffer at those contents. -/
theorem holds_all {m : Fin 8 → Memref sig .tc .hbm S256x4096 .f32} {X : Fin 8 → FVec F S256x4096 .f32}
    {f : ∀ k, Buf (Elt F) ((m k).view.loc (c : Thread nD τ))} (h : ∀ k, (m k).view.read (Elt F) (f k) = X k) :
    (bigSep Finset.univ fun k => ((m k).view.loc (c : Thread nD τ)) ↦[(m k).view.set]{fullShare} f k : sProp 𝕄) ⊢ bigSep Finset.univ fun k => Holds c (m k) (X k) :=
  bigSep_each fun k => by rw [← h k]; exact Holds.intro _ _ _

/-- And back. -/
theorem holds_back {m : Fin 8 → Memref sig .tc .hbm S256x4096 .f32} {X : Fin 8 → FVec F S256x4096 .f32}
    {f : ∀ k, Buf (Elt F) ((m k).view.loc (c : Thread nD τ))} (h : ∀ k, (m k).view.read (Elt F) (f k) = X k) :
    (bigSep Finset.univ fun k => Holds c (m k) (X k) : sProp 𝕄) ⊢ bigSep Finset.univ fun k => ((m k).view.loc (c : Thread nD τ)) ↦[(m k).view.set]{fullShare} f k :=
  bigSep_each fun k => by rw [← h k]; exact Holds.elim _ _ _

variable (I : Ins F) (κ : GSem nD τ sig → ℕ)

/-- What the stages start from. -/
theorem begin_intro :
    iprop(Slots c ∗ (bigSep (Finset.univ : Finset (Fin 8)) fun k => Free c (vYr k)) ∗ Entry c ∗ Reads I c
        ∗ (bigSep (Finset.univ : Finset (Fin 16)) fun m => Free c (outDst c m)) ∗ Owe c (O₀ c))
      ⊢ (Begin I c : sProp 𝕄) := by
  unfold Entry
  rw [cells_eq c fun g => iprop(atPos ER g 0 ∅ 0 ∗ reached ER g 0)]
  unfold Begin Slots Duties Creds OwnZero Meet Rings Sends Toks
  iintro ⟨⟨Fxs, Fxr, Fys, Fyc, Fpc, Frc, Foc⟩, Fyr, ⟨Hb, ⟨Cxs, Cxr, Cys, Cyr⟩, ⟨Db, Dx, Dy⟩, ⟨Kb, Kx, Ky⟩, Sp, Sr, Sy, So⟩, HR, HW, HO⟩
  ihave Cxr := unzip $$ Cxr
  icases Cxr with ⟨Ax, Rx⟩
  ihave Cyr := unzip $$ Cyr
  icases Cyr with ⟨Ay, Ry⟩
  isplitl [Db Kb Hb Fxr Rx Fyr Ry]
  · isplitl [Db]; · iexact Db
    isplitl [Kb Hb]
    · isplitl [Kb] <;> iassumption
    isplitl [Fxr Rx]
    · iapply zip
      isplitl [Fxr] <;> iassumption
    iapply zip
    isplitl [Fyr] <;> iassumption
  isplitl [Fpc Sp Frc Sr Foc So Fyc Sy]
  · isplitl [Fpc Sp]
    · iapply zip
      isplitl [Fpc] <;> iassumption
    isplitl [Frc Sr]
    · iapply zip
      isplitl [Frc] <;> iassumption
    isplitl [Foc So]
    · iapply zip
      isplitl [Foc] <;> iassumption
    isplitl [Fyc] <;> iassumption
  isplitl [Fxs Cxs Fys Cys]
  · isplitl [Fxs Cxs]
    · iapply zip
      isplitl [Fxs] <;> iassumption
    iapply zip
    isplitl [Fys] <;> iassumption
  isplitl [Dx Dy Kx Ax Ky Ay]
  · isplitl [Dx]; · iexact Dx
    isplitl [Dy]; · iexact Dy
    isplitl [Kx Ax]
    · iapply zip
      isplitl [Kx] <;> iassumption
    iapply (zip (Φ := fun k => cred (tallyAt (yrC c k) () N)) (Ψ := fun k => atPos ER (yrC c k) 0 ∅ 0))
    isplitl [Ky] <;> iassumption
  isplitl [HR]; · iexact HR
  isplitl [HW] <;> iassumption

/-- What the stages leave: the slots free, its own counters at zero, the cells' rounds over, the arrays read as they were, the
    stores made. -/
theorem end_elim :
    (End I c : sProp 𝕄) ⊢ iprop(Slots c ∗ OwnZero c ∗ Over c ∗ Reads I c ∗ (bigSep (Finset.univ : Finset (Fin 16)) fun m => Holds c (outDst c m) (I.W c m.val))
      ∗ Owe c 0 ∗ atPos ER (barC c) 1 ∅ 0) := by
  unfold End Slots OwnZero Over Reads Rings
  rw [show (YHave I c : Fin 8 → sProp 𝕄) = fun k => iprop(Holds c (vRes c k) (I.R c k) ∗ Free c (vXr k) ∗ atPos ER (xrC c k) 1 ∅ 0) from rfl,
    show (ZHave c : Fin 8 → sProp 𝕄) = fun k => iprop(Free c (vYr k) ∗ atPos ER (yrC c k) 1 ∅ 0) from rfl]
  iintro ⟨⟨Hpc, Hrc, Hoc, Fyc, Sy⟩, ⟨Hxs, Hys⟩, ⟨Hy, Hz⟩, ⟨HP, HG⟩, HW, HO, Hb⟩
  ihave Hpc := unzip $$ Hpc
  icases Hpc with ⟨Fpc, Sp⟩
  ihave Hrc := unzip $$ Hrc
  icases Hrc with ⟨Frc, Sr⟩
  ihave Hoc := unzip $$ Hoc
  icases Hoc with ⟨Foc, So⟩
  ihave Hxs := unzip $$ Hxs
  icases Hxs with ⟨Fxs, Axs⟩
  ihave Hys := unzip $$ Hys
  icases Hys with ⟨Fys, Ays⟩
  ihave Hy := unzip $$ Hy
  icases Hy with ⟨HR, Hy⟩
  ihave Hy := unzip $$ Hy
  icases Hy with ⟨Fxr, Axr⟩
  ihave Hz := unzip $$ Hz
  icases Hz with ⟨-, Ayr⟩
  isplitl [Fxs Fxr Fys Fyc Fpc Frc Foc]
  · isplitl [Fxs]; · iexact Fxs
    isplitl [Fxr]; · iexact Fxr
    isplitl [Fys]; · iexact Fys
    isplitl [Fyc]; · iexact Fyc
    isplitl [Fpc]; · iexact Fpc
    isplitl [Frc] <;> iassumption
  isplitl [Sp Sr Sy So]
  · isplitl [Sp]; · iexact Sp
    isplitl [Sr]; · iexact Sr
    isplitl [Sy] <;> iassumption
  isplitl [Axs Axr Ays Ayr]
  · isplitl [Axs]; · iexact Axs
    isplitl [Axr]; · iexact Axr
    isplitl [Ays] <;> iassumption
  isplitl [HP HR HG]
  · isplitl [HP]; · iexact HP
    isplitl [HR] <;> iassumption
  isplitl [HW]; · iexact HW
  isplitl [HO] <;> iassumption

variable {I κ c}

section Body

variable {fP : Buf (Elt F) ((c : Thread nD τ).loc main_v1)} {fR : Buf (Elt F) ((c : Thread nD τ).loc main_arg1)} {fO : Buf (Elt F) ((c : Thread nD τ).loc main_v3_0)}

variable (hP : ∀ k, (vPart c k).view.read (Elt F) fP = I.P c k) (hR : ∀ k, (vRes c k).view.read (Elt F) fR = I.R c k)
include hP hR

/-- The body of device `c`, from its whole buffers to its whole buffers. -/
theorem body_run (Q : PUnit → sProp 𝕄) :
    iprop(Ctx I κ ∗ Scratch c ∗ (((c : Thread nD τ).loc main_v1) ↦{fullShare} fP) ∗ (((c : Thread nD τ).loc main_arg1) ↦{fullShare} fR)
        ∗ (((c : Thread nD τ).loc main_v3_0) ↦{fullShare} fO)
        ∗ (∃ f : Buf (Elt F) ((c : Thread nD τ).loc main_v3_1), ((c : Thread nD τ).loc main_v3_1) ↦{fullShare} f)
        ∗ Entry c ∗ owns (c : Thread nD τ) mGam fullShare (I.G c) ∗ Owe c (O₀ c))
      ⊢ iprop((Scratch c ∗ (((c : Thread nD τ).loc main_v1) ↦{fullShare} fP) ∗ (((c : Thread nD τ).loc main_arg1) ↦{fullShare} fR)
          ∗ (((c : Thread nD τ).loc main_v3_0) ↦{fullShare} (outArr I c : Buf (Elt F) ((c : Thread nD τ).loc main_v3_0)))
          ∗ Pipeline.ownSems0 osem c ∗ semVal (barC c) 0 ∗ owns (c : Thread nD τ) mGam fullShare (I.G c) ∗ Owe c 0 -∗ Q ⟨⟩)
        -∗ WP c body Q) := by
  rw [part_chunks, res_chunks, ownSems_eq]
  unfold body
  rw [WP_bind]
  simp only [Prog.lift, Prog.bind_op, Prog.bind_ret, Prog.pure_eq_ret, wp_deviceId, wp_ret]
  iintro ⟨#HC, Hs, ⟨HP, HPr⟩, ⟨HR, HRr⟩, HO, HY, HE, HG, Ho⟩ Hk
  ihave HS := (scratch_slots c) $$ Hs
  ihave HY := (yr_slots c) $$ HY
  ihave HW := (out_split c fO) $$ HO
  ihave HP := (holds_all c (m := fun k => vPart c k) (f := fun _ => fP) hP) $$ HP
  ihave HR := (holds_all c (m := fun k => vRes c k) (f := fun _ => fR) hR) $$ HR
  imodintro
  iapply (wp_fupd frame (wpE (defs₀ (F := F)) 𝒱₀ (c : Thread nD τ) none) Set.univ)
  iapply (wp_stages (I := I) (κ := κ) (c := c) (fun a => iprop(|={Set.univ}=> Q a))) $$ [HS HY HE HP HR HG HW Ho]
  · isplitr; · iexact HC
    iapply (begin_intro c I)
    unfold Reads
    isplitl [HS]; · iexact HS
    isplitl [HY]; · iexact HY
    isplitl [HE]; · iexact HE
    isplitl [HP HR HG]
    · isplitl [HP]; · iexact HP
      isplitl [HR] <;> iassumption
    isplitl [HW] <;> iassumption
  iintro HE
  ihave HE := (end_elim c I) $$ HE
  icases HE with ⟨HS, HZ, HA, HR, HW, Ho, Hb⟩
  imod (close_all I κ c) $$ [HA] with HV
  · isplitr; · iexact HC
    iexact HA
  imod (close_cell (ctx_bar I κ c) (over_bar _ _ c)) $$ [Hb] with Hb
  · isplitr; · iexact HC
    iexact Hb
  imodintro
  ihave HR := (show Reads I c ⊢ iprop((bigSep (Finset.univ : Finset (Fin 8)) fun k => Holds c (vPart c k) (I.P c k))
    ∗ (bigSep (Finset.univ : Finset (Fin 8)) fun k => Holds c (vRes c k) (I.R c k)) ∗ owns (c : Thread nD τ) mGam fullShare (I.G c)) from .rfl) $$ HR
  icases HR with ⟨HP, HR, HG⟩
  iapply Hk
  isplitl [HS]; · iapply (slots_scratch c) $$ HS
  isplitl [HP HPr]
  · isplitl [HP]; · iapply (holds_back c (m := fun k => vPart c k) (f := fun _ => fP) hP) $$ HP
    iexact HPr
  isplitl [HR HRr]
  · isplitl [HR]; · iapply (holds_back c (m := fun k => vRes c k) (f := fun _ => fR) hR) $$ HR
    iexact HRr
  isplitl [HW]; · iapply (out_join I c) $$ HW
  isplitl [HV HZ]
  · isplitl [HV] <;> iassumption
  isplitl [Hb]; · iexact Hb
  isplitl [HG] <;> iassumption

end Body

end Cert.KernelIdeal.Rms

end
-- ==== Proof.Region.lean ====
/-
  The kernel's region of the program.

  The program reshapes two of its arguments and launches the kernel. Here is the record of that launch: the buffers and
  their contents before and after, what a device brings to the kernel and what it keeps of it, and the body's obligation.
-/
module

public import proofs.«01_k».proof.Proof.Entry
public import Idealize.ShloMosaic.Lib.Pipeline.RegionTalk

@[expose] public section

set_option synthInstance.maxSize 4096

noncomputable section

namespace Cert.KernelIdeal.Rms

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ### The buffers -/

/-- A core's buffers that outlive a region. -/
def bufs : Finset (DevRef τ sig) := (StableHlo.tcRefs τ sig).filter fun b => ¬ b.isScoped

/-- Those the kernel addresses, but the one its neighbour along `y` writes. -/
def kept : Finset (DevRef τ sig) :=
  {Proc.devRef .tc main_arg0, Proc.devRef .tc main_arg1, Proc.devRef .tc main_arg2, Proc.devRef .tc main_v1, Proc.devRef .tc main_v3_0}

/-- Buffer `b` of device `c`, whole, at `f`. -/
abbrev pt (c : Dev nD) (b : Ref sig .tc) (f : Buf (Elt F) ((c : Thread nD τ).loc b)) : sProp 𝕄 := iprop(((c : Thread nD τ).loc b) ↦{fullShare} f)

/-- The program's arrays, one by one. -/
theorem bufs_eq (c : Dev nD) (W : Valuation τ sig (Elt F)) :
    (StableHlo.held (c : Thread nD τ) bufs W : sProp 𝕄) = iprop(pt c main_arg0 (W main_arg0) ∗ pt c main_arg1 (W main_arg1) ∗ pt c main_arg2 (W main_arg2)
      ∗ pt c main_v1 (W main_v1) ∗ pt c main_v2 (W main_v2) ∗ pt c main_v3_0 (W main_v3_0) ∗ pt c main_v3_1 (W main_v3_1)) := by
  unfold StableHlo.held
  rw [bigSep_eq_bigSepL_of_eq [Proc.devRef .tc main_arg0, Proc.devRef .tc main_arg1, Proc.devRef .tc main_arg2, Proc.devRef .tc main_v1, Proc.devRef .tc main_v2,
    Proc.devRef .tc main_v3_0, Proc.devRef .tc main_v3_1] (by decide) (by decide)]
  rfl

/-- The arrays the call does not stage, one by one. -/
theorem kept_eq (c : Dev nD) (W : Valuation τ sig (Elt F)) :
    (StableHlo.held (c : Thread nD τ) kept W : sProp 𝕄) = iprop(pt c main_arg0 (W main_arg0) ∗ pt c main_arg1 (W main_arg1) ∗ pt c main_arg2 (W main_arg2)
      ∗ pt c main_v1 (W main_v1) ∗ pt c main_v3_0 (W main_v3_0)) := by
  unfold StableHlo.held
  rw [bigSep_eq_bigSepL_of_eq [Proc.devRef .tc main_arg0, Proc.devRef .tc main_arg1, Proc.devRef .tc main_arg2, Proc.devRef .tc main_v1,
    Proc.devRef .tc main_v3_0] (by decide) (by decide)]
  rfl

/-- The one array the call stages is the scale. -/
theorem arrs_eq (c : Dev nD) (W : Valuation τ sig (Elt F)) :
    (StableHlo.held (c : Thread nD τ) (Pipeline.arrRefs (τ := τ) (pcfgs (F := F) 0).spec) W : sProp 𝕄) = pt c main_v2 (W main_v2) := by
  unfold StableHlo.held
  rw [show Pipeline.arrRefs (τ := τ) (pcfgs (F := F) 0).spec = {Proc.devRef .tc main_v2} from show Pipeline.arrRefs (τ := τ) spec0 = _ from by decide, bigSep_singleton]

/-- The buffers as launched. -/
def V₀ (c : Dev nD) : Valuation τ sig (Elt F) := fun b => m (c, b)
/-- As the kernel finds them. -/
def V₁ (c : Dev nD) : Valuation τ sig (Elt F) := StableHlo.after hostOps0 (V₀ m c)

/-- The contents when the call begins are those after the reshapes. -/
theorem V₁_eq (c : Dev nD) (b : Ref sig .tc) : V₁ m c b = V m c b := rfl

/-- The chunks the devices start from. -/
def ins : Ins F where
  P c k := (vPart c k).view.read (Elt F) (V m c main_v1)
  R c k := (vRes c k).view.read (Elt F) (V m c main_arg1)
  G c := iblk m c 0 t0_0

/-- As the kernel leaves them. -/
def V₂ (c : Dev nD) : Valuation τ sig (Elt F) :=
  Function.update (V₁ m c) (Proc.devRef .tc main_v3_0) (outArr (ins m) c : Buf (Elt F) ((c : Thread nD τ).loc main_v3_0))

/-- After the call the result's array holds the result, -/
theorem V₂_out (c : Dev nD) : V₂ m c main_v3_0 = outArr (ins m) c := Function.update_self ..
/-- and the others are as they were: the partial sums, -/
theorem V₂_arg0 (c : Dev nD) : V₂ m c main_arg0 = V₁ m c main_arg0 := Function.update_of_ne (by decide) ..
/-- the residual, -/
theorem V₂_arg1 (c : Dev nD) : V₂ m c main_arg1 = V₁ m c main_arg1 := Function.update_of_ne (by decide) ..
/-- the scale, -/
theorem V₂_arg2 (c : Dev nD) : V₂ m c main_arg2 = V₁ m c main_arg2 := Function.update_of_ne (by decide) ..
/-- the reshaped partial sums, -/
theorem V₂_v1 (c : Dev nD) : V₂ m c main_v1 = V₁ m c main_v1 := Function.update_of_ne (by decide) ..
/-- and the reshaped scale. -/
theorem V₂_v2 (c : Dev nD) : V₂ m c main_v2 = V₁ m c main_v2 := Function.update_of_ne (by decide) ..

/-! ### What a device brings to the kernel -/

/-- The array the neighbour along `y` writes, at some contents. -/
def Away (c : Dev nD) : sProp 𝕄 := iprop(∃ f : Buf (Elt F) ((c : Thread nD τ).loc main_v3_1), pt c main_v3_1 f)

/-- From the launch: the protocol, its place at the rendezvous, its cells not yet open, its duties. -/
def Kit (c : Dev nD) : sProp 𝕄 :=
  iprop((∃ κ, Ctx (ins m) κ) ∗ atPos ER (barC c) 0 ∅ 0 ∗ (bigSep (Finset.univ : Finset (Fin 20)) fun j => openTok ER (scC c j)) ∗ Duties c)

/-- With its credits and that array. -/
def Tk (c : Dev nD) : sProp 𝕄 := iprop(Kit m c ∗ Creds c ∗ Away c)
/-- As the body starts, the cells opened. -/
def Xk (c : Dev nD) : sProp 𝕄 := iprop((∃ κ, Ctx (ins m) κ) ∗ Entry c ∗ Away c)
/-- What it keeps: its rendezvous counter at zero. -/
def Yk (c : Dev nD) : sProp 𝕄 := semVal (barC c) 0

/-- The call opens: its semaphores at zero become the exchanges' cells. -/
theorem hopen (c : Dev nD) : iprop(Tk m c ∗ Pipeline.ownSems0 osem c ∗ levAts L lv) ⊢ (|={Set.univ}=> Xk m c : sProp 𝕄) := by
  rw [ownSems_eq]
  unfold Tk Xk Kit Entry
  iintro ⟨⟨⟨⟨%κ, #HC⟩, Hb, Ho, HD⟩, HK, HA⟩, ⟨Hv, HZ⟩, -⟩
  imod (open_cells (ins m) κ c) $$ [Ho Hv] with Ho
  · isplitr; · iexact HC
    isplitl [Ho] <;> iassumption
  imodintro
  isplitr; · iexists κ; iexact HC
  isplitr [HA]
  · isplitl [Hb]; · iexact Hb
    isplitl [Ho]; · iexact Ho
    isplitl [HD]; · iexact HD
    isplitl [HK] <;> iassumption
  iexact HA

/-! ### The region's data -/

/-- Before the body and after it. -/
def Inv (c : Dev nD) (n : ℕ) : sProp 𝕄 :=
  if n = 0 then iprop(Scratch c ∗ (∃ r, prngReg c r) ∗ StableHlo.held (c : Thread nD τ) kept (V₁ m c) ∗ Xk m c)
  else iprop(Scratch c ∗ (∃ r, prngReg c r) ∗ StableHlo.held (c : Thread nD τ) kept (V₂ m c) ∗ Pipeline.ownSems0 osem c ∗ Yk c)

/-- What it owes before the body, and nothing after it. -/
def owedAt (c : Dev nD) (n : ℕ) : CellTallies nD τ sig Unit := if n = 0 then O₀ c else 0

def dat (c : Dev nD) : Dat τ (Elt F) Unit ℕ UU ℕ cfg0 c where
  A w := V m c (Pipeline.arrRef spec0 w)
  after := fun
    | 0 => fun t => iblk m c 0 t
    | ⟨_ + 1, h⟩ => absurd h (Nat.not_lt.2 (Nat.le_add_left _ _))
  Φ t := Inv m c t.val
  q _ := fullShare
  owed t := owedAt c t.val

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => fun c => dat m c

/-- What a device owes, as the call states it, -/
theorem owesAt_intro {c : Dev nD} (t : Fin (cfg0.N + 1)) : (Owe c (owedAt c t.val) : sProp 𝕄) ⊢ (dat m c).owesAt () t := by
  unfold Owe Dat.owesAt Pipeline.owesWithin Dat.bound
  iintro ⟨%W, HO⟩
  iexists W; isplitr; · ipureintro; exact fun _ _ => Or.inl trivial
  iexact HO
/-- and back. -/
theorem owesAt_elim {c : Dev nD} (t : Fin (cfg0.N + 1)) : ((dat m c).owesAt () t : sProp 𝕄) ⊢ Owe c (owedAt c t.val) := by
  unfold Owe Dat.owesAt Pipeline.owesWithin
  iintro ⟨%W, -, HO⟩
  iexists W; iexact HO

/-- After the body, where nothing is owed. -/
theorem owesAt_after (c : Dev nD) : (Owe c 0 : sProp 𝕄) ⊢ (dat m c).owesAt () t0_0.succ := owesAt_intro m t0_0.succ

/-- The staged scales are the argument's block. -/
theorem before_eq (c : Dev nD) (t : Fin cfg0.N) (d) : (dat m c).before 0 t d = iblk m c 0 t :=
  ((dat m c).before_in_eq_fetched 0 rfl (fun _ => rfl) (fun _ _ _ => rfl) (fun _ => rfl) t d).trans rfl

/-- The body does at the call's one point what the call asks. -/
theorem body_obligation (c : Dev nD) : BodyObligation (dat m c) defs₀ 𝒱₀ () Set.univ := fun t => by
  obtain rfl := fin_N0 t
  rw [bigSep_W0, bigSep_W0]
  simp only [before_eq]
  rw [show (dat m c).Φ t0_0.castSucc = iprop(Scratch c ∗ (∃ r, prngReg c r) ∗ StableHlo.held (c : Thread nD τ) kept (V₁ m c) ∗ Xk m c) from rfl,
    show (dat m c).Φ t0_0.succ = iprop(Scratch c ∗ (∃ r, prngReg c r) ∗ StableHlo.held (c : Thread nD τ) kept (V₂ m c) ∗ Pipeline.ownSems0 osem c ∗ Yk c) from rfl,
    kept_eq, kept_eq]
  rw [V₂_arg0, V₂_arg1, V₂_arg2, V₂_v1, V₂_out, show defs₀ Proc.tc 0 (t0_0, cfg0.slots t0_0) = bodyAt0 (F := F) t0_0 from rfl, body_eq,
    show (dat m c).after 0 t0_0 = iblk m c 0 t0_0 from rfl]
  unfold Xk Away Yk
  iintro ⟨⟨Hs, Hp, ⟨H0, H1, H2, HP, HO⟩, ⟨%κ, #HC⟩, HE, HA⟩, Ho, ⟨%d, HG⟩⟩
  ihave Ho := (owesAt_elim m t0_0.castSucc) $$ Ho
  iapply (body_run (I := ins m) (κ := κ) (c := c) (fP := V₁ m c main_v1) (fR := V₁ m c main_arg1) (fO := V₁ m c main_v3_0)
    (fun _ => rfl) (fun _ => rfl)) $$ [Hs HP H1 HO HA HE HG Ho]
  · isplitr; · iexact HC
    isplitl [Hs]; · iexact Hs
    isplitl [HP]; · iexact HP
    isplitl [H1]; · iexact H1
    isplitl [HO]; · iexact HO
    isplitl [HA]; · iexact HA
    isplitl [HE]; · iexact HE
    isplitl [HG]; · iexact HG
    iexact Ho
  iintro ⟨Hs, HP, H1, HO, HS, Hb, HG, Ho⟩
  isplitr [Ho HG]
  · isplitl [Hs]; · iexact Hs
    isplitl [Hp]; · iexact Hp
    isplitl [H0 H1 H2 HP HO]
    · isplitl [H0]; · iexact H0
      isplitl [H1]; · iexact H1
      isplitl [H2]; · iexact H2
      isplitl [HP]; · iexact HP
      iexact HO
    isplitl [HS]; · iexact HS
    iexact Hb
  isplitl [Ho]; · iapply (owesAt_after m c) $$ Ho
  iexact HG

/-! ### The record -/

local notation "ℝ𝕊" => Pipeline.RegionSeg (pcfgs (F := F)) adm (pdats m) () defs₀ 𝒱₀ L lv

/-- What the call's launch asks of its windows. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- When the call begins a device owes what it owed at the launch, -/
theorem owed_first (c : Dev nD) : (pdats (F := F) m 0 c).owed 0 = O₀ c := by
  show owedAt c ((0 : Fin (cfg0.N + 1)).val) = O₀ c; exact if_pos rfl
/-- and when it ends nothing. -/
theorem owed_last (c : Dev nD) : (pdats (F := F) m 0 c).owed (Fin.last _) = 0 := by
  show owedAt c (Fin.last cfg0.N).val = 0
  unfold owedAt; rw [Fin.val_last, if_neg (by rw [show cfg0.N = 1 from N_0]; decide)]

/-- What is owed at the start is to a neighbour's arrival or rendezvous. -/
theorem O₀_pos {c : Dev nD} {g : GSem nD τ sig} {u : Unit} (h : 0 < O₀ c g u) :
    (∃ k : Fin 8, g = xrC (xn c) k) ∨ (∃ k : Fin 8, g = yrC (yn c) k) ∨ g = barC (yn c) ∨ g = barC (xn c) := by
  have one {d : Dev nD} (h : 0 < (tallyAt (barC d) () 1 : CellTallies nD τ sig Unit) g u) : g = barC d := by
    rw [tallyAt_apply] at h
    split at h
    · next hg => exact hg.1
    · exact absurd h (Nat.lt_irrefl 0)
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · rcases owed_pos h with ⟨k, -, h⟩ | ⟨k, -, h⟩
      · exact .inl ⟨k, h⟩
      · exact .inr (.inl ⟨k, h⟩)
    · exact .inr (.inr (.inl (one h)))
  · exact .inr (.inr (.inr (one h)))

/-- Whatever is owed, at every point, is of a cell above the staging cells. -/
theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rw [show (pdats (F := F) m 0 c).owed t = owedAt c t.val from rfl] at h
  unfold owedAt at h
  split at h
  · rcases O₀_pos h with ⟨k, rfl⟩ | ⟨k, rfl⟩ | rfl | rfl <;> refine ⟨by rw [L_tc]; exact Finset.mem_singleton_self _, ?_⟩
    · show 0 < level (use (.dma (xrS k))); rw [use_xr]; show 0 < 2 + 2 * k.val; omega
    · show 0 < level (use (.dma (yrS k))); rw [use_yr]; show 0 < 3 + 2 * k.val; omega
    · show 0 < level (use (.reg barrier0)); rw [use_bar]; decide
    · show 0 < level (use (.reg barrier0)); rw [use_bar]; decide
  · exact absurd h (Nat.lt_irrefl 0)

/-- The staging cells are at the lowest level. -/
theorem stage_level (c : Dev nD) : ∀ (w : Fin (Pipeline.pin (pcfgs (F := F)) adm 0).W) (s : Fin ((Pipeline.pin (pcfgs (F := F)) adm 0).win w).nbuf),
    lv ((c : Thread nD τ), .dma (((Pipeline.pin (pcfgs (F := F)) adm 0).win w).sem s)) () ≤ 0
  | 0 => fun _ => Nat.le_of_eq rfl
  | ⟨_ + 1, h⟩ => absurd h (Nat.not_lt.2 (Nat.le_add_left _ _))

/-- What a device has when the call begins is what its body starts from. -/
theorem hin (c : Dev nD) :
    iprop(Pipeline.scopedRest (Pipeline.pin (pcfgs (F := F)) adm 0).spec c ∗ (∃ r, prngReg c r) ∗ StableHlo.held (c.tc : Thread nD τ) kept (V₁ m c) ∗ Xk m c)
      ⊢ (pdats m 0 c).Φ 0 := .rfl

/-- What the body leaves is what the call hands back. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) kept (V₂ m c)
      ∗ Pipeline.ownSems0 osem c ∗ Yk c) := .rfl

/-- The staged array when the call begins, -/
theorem arr_first (c : Dev nD) : ∀ w, (pdats (F := F) m 0 c).arrAt w 0 = V₁ m c (Proc.devRef .tc (Pipeline.arrRef (Pipeline.pin (pcfgs (F := F)) adm 0).spec w))
  | 0 => rfl
  | ⟨_ + 1, h⟩ => absurd h (Nat.not_lt.2 (Nat.le_add_left _ _))
/-- and when it ends. -/
theorem arr_last (c : Dev nD) :
    ∀ w, (pdats (F := F) m 0 c).arrAt w (Pipeline.pin (pcfgs (F := F)) adm 0).N = V₂ m c (Proc.devRef .tc (Pipeline.arrRef (Pipeline.pin (pcfgs (F := F)) adm 0).spec w))
  | 0 => ((dat m c).arrAt_in 0 rfl _).trans (V₂_v2 m c).symm
  | ⟨_ + 1, h⟩ => absurd h (Nat.not_lt.2 (Nat.le_add_left _ _))

set_option backward.isDefEq.respectTransparency.types false in
/-- The kernel's region. -/
def reg : ℝ𝕊 0 :=
  Pipeline.RegionSeg.ofTalk (pcfgs (F := F)) adm (pdats m) () defs₀ 𝒱₀ L lv 0 osem (by decide : Pipeline.OwnSemFacts spec0 osem)
    kept kept (Finset.Subset.refl _) kitP rfl (fun c => (body_obligation m c).loose)
    (fun _ => 0) O₀ (fun c => (owed_first m c).trans (zero_add _).symm) (owed_last m) (fun _ => rfl)
    (fun c w => by unfold Dat.share; split <;> rfl)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_tc]; exact Finset.mem_singleton_self _, stage_level, fun c t g i h => cut m c t g i h⟩
    (fun _ => iprop(emp))
    (arr_first m) (arr_last m)

end Cert.KernelIdeal.Rms

end
-- ==== Proof.Launch.lean ====
/-
  The run of the program.

  At the launch the exchanges' cells are funded, those of the kernel's own counters dormant until its region opens them,
  every duty's token is handed to the device that pays it, and each device's credit is what its neighbours owe it. The
  program then runs to its end: the arguments as they were, the result holding what the kernel put there, every counter
  at zero.
-/
module

public import proofs.«01_k».proof.Proof.Region
public import Idealize.ShloMosaic.Lib.Pipeline.Regions

@[expose] public section

set_option synthInstance.maxSize 4096

noncomputable section

namespace Cert.KernelIdeal.Rms

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The segments -/

local notation "ℍ" => Pipeline.HostSeg (Name := ℕ) (U := UU) (pcfgs (F := F)) defs₀ 𝒱₀ L lv

/-- What rides along the reshapes: the protocol's part, the generator register, what is owed. -/
def Ride (c : Dev nD) : sProp 𝕄 := iprop(Kit m c ∗ Creds c ∗ (∃ r, prngReg c r) ∗ Owe c (O₀ c))

/-- The host's reshapes touch only the arrays of the program, -/
theorem ops_sub : ∀ op ∈ (hostOps0 : List (HloOp τ sig (Elt F))), op.bufs ⊆ bufs := fun op h => by
  simp only [List.mem_cons, List.not_mem_nil, or_false] at h
  rcases h with rfl | rfl
  · show ({Proc.devRef .tc main_arg0, Proc.devRef .tc main_v1} : Finset (DevRef τ sig)) ⊆ bufs; decide
  · show ({Proc.devRef .tc main_arg2, Proc.devRef .tc main_v2} : Finset (DevRef τ sig)) ⊆ bufs; decide
/-- and make no new ones. -/
theorem ops_fresh : ∀ op ∈ (hostOps0 : List (HloOp τ sig (Elt F))), op.fresh = ∅ := List.forall_iff_forall_mem.mp hostOps0_fresh

/-- The two reshapes. -/
def seg : ℍ := Pipeline.HostSeg.ofOps _ _ _ _ _ bufs hostOps0 ops_sub ops_fresh (V₀ m) (Ride m)

def segs : List (Pipeline.Seg (pcfgs (F := F)) adm (pdats m) () defs₀ 𝒱₀ L lv) := [.host (seg m), .region (reg m)]

/-- The program is its two reshapes and then the call. -/
theorem main_eq (c : Dev nD) : main (F := F) c = Pipeline.Seg.run (segs m) :=
  main_segs adm (pdats m) () 𝒱₀ L lv (seg m) (reg m) rfl c

/-- What a device holds after the reshapes is what the call asks for. -/
theorem reg_pre (c : Dev nD) : iprop(StableHlo.held (c : Thread nD τ) bufs (V₁ m c) ∗ Ride m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) kept (V₁ m c) ∗ emp) ∗ Tk m c ∗ ∃ Wd, owes (c : Thread nD τ) (0 + O₀ c) Wd)
  rw [arrs_eq, bufs_eq, kept_eq, zero_add]
  unfold Ride Tk Away Owe
  iintro ⟨⟨H0, H1, H2, Hv1, Hv2, HO, HA⟩, HK, HC, Hp, Ho⟩
  isplitl [Hv2]; · iexact Hv2
  isplitl [Hp]; · iexact Hp
  isplitl [H0 H1 H2 Hv1 HO]
  · isplitl [H0 H1 H2 Hv1 HO]
    · isplitl [H0]; · iexact H0
      isplitl [H1]; · iexact H1
      isplitl [H2]; · iexact H2
      isplitl [Hv1] <;> iassumption
    iempintro
  isplitl [HK HC HA]
  · isplitl [HK]; · iexact HK
    isplitl [HC]; · iexact HC
    iexists (V₁ m c main_v3_1); iexact HA
  iexact Ho

/-- What a device is left with. -/
def Left (c : Dev nD) : sProp 𝕄 := iprop(StableHlo.held (c : Thread nD τ) kept (V₂ m c) ∗ semVal (barC c) 0)

/-- What the call leaves is what the program's end asks for. -/
theorem reg_post (c : Dev nD) : (reg m).post c ⊢ iprop(Left m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) kept (V₂ m c) ∗ emp) ∗ Yk c ∗ ∃ Wd, owes (c : Thread nD τ) (0 : CellTallies nD τ sig Unit) Wd) ⊢ _
  unfold Left Yk
  iintro ⟨-, -, ⟨Hh, -⟩, Hb, HO⟩
  isplitl [Hh Hb]
  · isplitl [Hh] <;> iassumption
  iexact HO

/-! ### The cells and the tokens -/

def barEmb : Dev nD ↪ GSem nD τ sig := ⟨fun c => barC c, fun _ _ h => congrArg (fun g : GSem nD τ sig => g.1.1) h⟩
/-- The exchange cells of a device are different. -/
theorem scSem_inj : Function.Injective fun j : Fin 20 => osem (.inl j) := by decide
def scEmb : Dev nD × Fin 20 ↪ GSem nD τ sig :=
  ⟨fun p => scC p.1 p.2, fun _ _ h => Prod.ext (congrArg (fun g : GSem nD τ sig => g.1.1) h) (scSem_inj (congrArg Prod.snd h))⟩

/-- The rendezvous' cells. -/
abbrev barCells : Finset (GSem nD τ sig) := Finset.univ.map barEmb
/-- The exchanges' cells. -/
abbrev scCells : Finset (GSem nD τ sig) := Finset.univ.map scEmb

/-- No rendezvous cell is an exchange cell. -/
theorem disjoint_cells : Disjoint (barCells : Finset (GSem nD τ sig)) scCells := Finset.disjoint_left.mpr fun g h₁ h₂ => by
  obtain ⟨c, -, rfl⟩ := Finset.mem_map.mp h₁
  obtain ⟨p, -, h⟩ := Finset.mem_map.mp h₂
  exact absurd (congrArg Prod.snd h) (fun e : SemLoc.dma _ = SemLoc.reg _ => by cases e)

/-- The duties at a device's cells: the neighbours' signals, then each chunk's departure and arrival along `x` and along `y`. -/
abbrev DutyIx : Type := Bool ⊕ Fin 8 ⊕ Fin 8 ⊕ Fin 8 ⊕ Fin 8

/-- Each one's counter, round and name. -/
def dutyOf : DutyIx → SemLoc sig × ℕ × Bool
  | .inl b => (.reg barrier0, 0, b)
  | .inr (.inl k) => (.dma (xsS (s2 k)), k.val / 2, true)
  | .inr (.inr (.inl k)) => (.dma (xrS k), 0, true)
  | .inr (.inr (.inr (.inl k))) => (.dma (ysS (s2 k)), k.val / 2, true)
  | .inr (.inr (.inr (.inr k))) => (.dma (yrS k), 0, true)

set_option maxRecDepth 4000 in
/-- The duties of a device are different. -/
theorem dutyOf_inj : Function.Injective dutyOf := by decide

def dutyEmb : Dev nD × DutyIx ↪ GSem nD τ sig × ℕ × Bool :=
  ⟨fun p => (((p.1 : Thread nD τ), (dutyOf p.2).1), (dutyOf p.2).2), fun _ _ h =>
    Prod.ext (congrArg (fun t : GSem nD τ sig × ℕ × Bool => t.1.1.1) h)
      (dutyOf_inj (Prod.ext (congrArg (fun t : GSem nD τ sig × ℕ × Bool => t.1.2) h) (congrArg (fun t : GSem nD τ sig × ℕ × Bool => t.2) h)))⟩

/-- Every duty. -/
abbrev duties : Finset (GSem nD τ sig × ℕ × Bool) := Finset.univ.map dutyEmb

/-- The tokens of the duties at device `c`'s own cells. -/
def Own (c : Dev nD) : sProp 𝕄 :=
  iprop((dutyTok ER (barC c) 0 true ∗ dutyTok ER (barC c) 0 false)
    ∗ (bigSep (Finset.univ : Finset (Fin 8)) fun k => dutyTok ER (xsC c (s2 k)) (k.val / 2) true)
    ∗ (bigSep (Finset.univ : Finset (Fin 8)) fun k => dutyTok ER (xrC c k) 0 true)
    ∗ (bigSep (Finset.univ : Finset (Fin 8)) fun k => dutyTok ER (ysC c (s2 k)) (k.val / 2) true)
    ∗ (bigSep (Finset.univ : Finset (Fin 8)) fun k => dutyTok ER (yrC c k) 0 true))

/-- All duties' tokens, sorted by the device that pays. -/
theorem duties_own : (bigSep duties fun x => dutyTok ER x.1 x.2.1 x.2.2 : sProp 𝕄) = bigSep Finset.univ fun c : Dev nD => Own c := by
  rw [bigSep_map, bigSep_univ_prod]
  refine bigSep_congr fun c _ => ?_
  rw [bigSep_univ_sum, bigSep_univ_sum, bigSep_univ_sum, bigSep_univ_sum, bigSep_univ_eq_bigSepL [true, false] (by decide) (by decide)]
  rfl

def xEquiv : Dev nD ≃ Dev nD := ⟨xn, xn, xn_xn, xn_xn⟩
def yEquiv : Dev nD ≃ Dev nD := ⟨yn, yn, yn_yn, yn_yn⟩

/-- Each token goes to the device that pays the duty: a departure's stays, a signal's and an arrival's go to the neighbour. -/
theorem deal : (bigSep Finset.univ fun c : Dev nD => Own c : sProp 𝕄) ⊢ bigSep Finset.univ fun c : Dev nD => Duties c := by
  unfold Own Duties XTok YTok
  simp only [bigSep_sep']
  rw [bigSep_univ_equiv xEquiv (fun c : Dev nD => (dutyTok ER (barC c) 0 true : sProp 𝕄)),
    bigSep_univ_equiv yEquiv (fun c : Dev nD => (dutyTok ER (barC c) 0 false : sProp 𝕄)),
    bigSep_univ_equiv xEquiv (fun c : Dev nD => (bigSep (Finset.univ : Finset (Fin 8)) fun k => dutyTok ER (xrC c k) 0 true : sProp 𝕄)),
    bigSep_univ_equiv yEquiv (fun c : Dev nD => (bigSep (Finset.univ : Finset (Fin 8)) fun k => dutyTok ER (yrC c k) 0 true : sProp 𝕄))]
  iintro ⟨⟨Ht, Hf⟩, Hxs, Hxr, Hys, Hyr⟩
  isplitl [Ht Hf]
  · isplitl [Ht]; · iexact Ht
    iexact Hf
  isplitl [Hxs Hxr]
  · isplitl [Hxs]; · iexact Hxs
    iexact Hxr
  isplitl [Hys]; · iexact Hys
  iexact Hyr

/-! ### The credit -/

/-- Two credits of one on the rendezvous are a credit of two. -/
theorem twice (c : Dev nD) : iprop(cred (tallyAt (barC c) () 1) ∗ cred (tallyAt (barC c) () 1)) ⊢ (cred (tallyAt (barC c) () 2) : sProp 𝕄) := by
  rw [show (tallyAt (barC c) () 2 : CellTallies nD τ sig Unit) = tallyAt (barC c) () 1 + tallyAt (barC c) () 1 from (tallyAt_add _ _ 1 1).symm]
  exact (cred_add _ _).2

/-- What the neighbours owe a device is its credit. -/
theorem creds (c : Dev nD) : (Pipeline.launchCred O₀ c : sProp 𝕄) ⊢ Creds c := by
  rw [show (O₀ : Dev nD → CellTallies nD τ sig Unit) = fun d =>
      (((fun d => ∑ k ∈ (Finset.univ : Finset (Fin 8)).filter (fun k => 0 ≤ k.val), tallyAt (xrC (xn d) k) () N) d
        + (fun d => ∑ k ∈ (Finset.univ : Finset (Fin 8)).filter (fun k => 0 ≤ k.val), tallyAt (yrC (yn d) k) () N) d)
        + (fun d => tallyAt (barC (yn d)) () 1) d) + (fun d => tallyAt (barC (xn d)) () 1) d from rfl,
    Pipeline.launchCred_add, Pipeline.launchCred_add, Pipeline.launchCred_add, Pipeline.launchCred_sum, Pipeline.launchCred_sum,
    show (Finset.univ : Finset (Fin 8)).filter (fun k => 0 ≤ k.val) = Finset.univ from by decide]
  unfold Creds
  iintro ⟨⟨⟨HX, HY⟩, Hy⟩, Hx⟩
  isplitl [Hx Hy]
  · iapply (twice c)
    isplitl [Hx]
    · iapply (Pipeline.launchCred_tallyAt (.reg barrier0) xn xn xn_xn xn_xn () 1 c) $$ Hx
    iapply (Pipeline.launchCred_tallyAt (.reg barrier0) yn yn yn_yn yn_yn () 1 c) $$ Hy
  isplitl [HX]
  · iapply (bigSep_each fun k : Fin 8 => Pipeline.launchCred_tallyAt (.dma (xrS k)) xn xn xn_xn xn_xn () N c) $$ HX
  iapply (bigSep_each fun k : Fin 8 => Pipeline.launchCred_tallyAt (.dma (yrS k)) yn yn yn_yn yn_yn () N c) $$ HY

/-! ### The launch -/

/-- The launch element: the staging cells' and the exchanges'. -/
def u₀ : UU :=
  (initOf (Pipeline.cells (Pipeline.pin (pcfgs (F := F)) adm) cellOf_inj) (Pipeline.launchToks (Pipeline.pin (pcfgs (F := F)) adm) cellOf_inj),
    (launchOf barCells scCells duties, 1))

/-- The exchanges' element is kept on device 0 until every device's counters are in hand. -/
def G (c : Dev nD) : sProp 𝕄 := if c = 0 then BI.own (ER (launchOf barCells scCells duties)) else iprop(emp)

/-- The devices' parts of the launch state make up the whole of it. -/
theorem all_G : (bigSep Finset.univ (G (F := F)) : sProp 𝕄) = BI.own (ER (launchOf barCells scCells duties)) := by
  have h : (bigSep (Finset.univ.erase (0 : Dev nD)) (G (F := F)) : sProp 𝕄) = BI.emp :=
    (bigSep_congr fun c hc => by unfold G; rw [if_neg (Finset.ne_of_mem_erase hc)]; rfl).trans (BI.bigSep_emp_const _)
  rw [bigSep_univ_at _ (0 : Dev nD), h]
  unfold G
  rw [if_pos rfl]
  exact BI.equiv_iff.mp sep_emp

/-- The buffers that outlive the call are the program's arrays. -/
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The semaphore that outlives the call is the rendezvous's. -/
theorem unscopedSems_bar (c : Dev nD) : (unscopedSems0 c : sProp 𝕄) = semVal (barC c) 0 := by
  unfold unscopedSems0
  rw [show (Finset.univ.filter fun sm : SemLoc sig => ¬ sm.isScoped .tc) = {SemLoc.reg barrier0} from by decide, BI.bigSep_singleton]

/-- Of a device's launch holdings, all but the exchanges' element and its rendezvous counter. -/
def Bundle (c : Dev nD) : sProp 𝕄 :=
  iprop(StableHlo.held (c : Thread nD τ) bufs (V₀ m c) ∗ Creds c ∗ (∃ r, prngReg c r) ∗ Owe c (O₀ c))

/-- Of the exchanges' state, what goes to device `c`. -/
def Share (c : Dev nD) : sProp 𝕄 :=
  iprop(atPos ER (barC c) 0 ∅ 0 ∗ (bigSep (Finset.univ : Finset (Fin 20)) fun j => openTok ER (scC c j)) ∗ Duties c)

/-- The state before the reshapes. -/
def Start (c : Dev nD) : sProp 𝕄 := iprop(StableHlo.held (c : Thread nD τ) bufs (V₀ m c) ∗ Ride m c)

/-- The shared facts, a device's share of the rounds and its own things make its start. -/
theorem start_intro (κ : GSem nD τ sig → ℕ) (c : Dev nD) : iprop(Ctx (ins m) κ ∗ (Share c ∗ Bundle m c)) ⊢ (Start m c : sProp 𝕄) := by
  unfold Share Bundle Start Ride Kit
  iintro ⟨#HC, ⟨Hb, Ho, HD⟩, Hh, HK, Hp, HO⟩
  isplitl [Hh]; · iexact Hh
  isplitl [Hb Ho HD]
  · isplitr; · iexists κ; iexact HC
    isplitl [Hb]; · iexact Hb
    isplitl [Ho] <;> iassumption
  isplitl [HK]; · iexact HK
  isplitl [Hp] <;> iassumption

/-- What the launch gives a device, sorted into its own things, its rendezvous cell and the launch state. -/
theorem bundle_intro (c : Dev nD) :
    iprop(unscopedBufs c (fun b => m ((c : Thread nD τ).loc b)) ∗ unscopedSems0 c ∗ owes (c : Thread nD τ) (O₀ c) ∅ ∗ Pipeline.launchCred O₀ c
        ∗ prngReg c (ρ c) ∗ G c)
      ⊢ (iprop(Bundle m c ∗ (semVal (barC c) 0 ∗ G c)) : sProp 𝕄) := by
  rw [show unscopedBufs c (fun b => m ((c : Thread nD τ).loc b)) = StableHlo.held (c : Thread nD τ) bufs (V₀ m c) from unscopedBufs_held c (V₀ m c),
    unscopedSems_bar]
  unfold Bundle Owe
  iintro ⟨Hh, Hs, HO, Hc, Hp, HG⟩
  isplitl [Hh HO Hc Hp]
  · isplitl [Hh]; · iexact Hh
    isplitl [Hc]; · iapply (creds c) $$ Hc
    isplitl [Hp]; · iexists (ρ c); iexact Hp
    iexists ∅; iexact HO
  isplitl [Hs] <;> iassumption

/-- The invariants of every cell, and that each rendezvous is open, as every device knows them. -/
theorem ctx_intro (κ : GSem nD τ sig → ℕ) :
    iprop(levAts L lv ∗ (bigSep (barCells ∪ scCells) fun g => cellInv ER (RI (ins m)) (κ g) g) ∗ bigSep barCells fun g => reached ER g 0)
      ⊢ (Ctx (ins m) κ : sProp 𝕄) := by
  unfold Ctx
  rw [show (bigSep (barCells ∪ scCells) fun g => cellInv ER (RI (ins m)) (κ g) g : sProp 𝕄)
      = iprop((bigSep barCells fun g => cellInv ER (RI (ins m)) (κ g) g) ∗ bigSep scCells fun g => cellInv ER (RI (ins m)) (κ g) g)
      from bigSep_union disjoint_cells, bigSep_map, bigSep_map, bigSep_map]
  iintro ⟨HL, ⟨Hb, Hs⟩, Hr⟩
  isplitl [HL]; · iexact HL
  isplitl [Hb]; · iexact Hb
  isplitl [Hs]; · iexact Hs
  iexact Hr

/-- The positions, openings and tokens of all cells, dealt out to the devices. -/
theorem share_intro :
    iprop((bigSep barCells fun g => atPos ER g 0 ∅ 0) ∗ (bigSep scCells fun g => openTok ER g) ∗ bigSep duties fun x => dutyTok ER x.1 x.2.1 x.2.2)
      ⊢ (bigSep Finset.univ fun c : Dev nD => Share c : sProp 𝕄) := by
  rw [duties_own, bigSep_map, bigSep_map, bigSep_univ_prod]
  unfold Share
  simp only [bigSep_sep']
  iintro ⟨Hb, Hs, HD⟩
  isplitl [Hb]; · iexact Hb
  isplitl [Hs]; · iexact Hs
  iapply deal $$ HD

/-- The launch gives every device its start. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (Start m) : sProp 𝕄) := by
  refine (sep_mono_left (bigSep_mono fun c _ => bundle_intro m ρ c)).trans ?_
  simp only [bigSep_sep']
  rw [all_G]
  iintro ⟨⟨HB, Hv, Hu⟩, HL⟩
  imod (Rounds.fund_launch ER (RI (ins m)) disjoint_cells (fun _ _ h => h) duties) $$ [Hv Hu] with ⟨%κ, -, HI, Hr, Hat, Ho, HD⟩
  · isplitl [Hv]
    · rw [bigSep_map]; iexact Hv
    iexact Hu
  imodintro
  iapply (bigSep_with_persistent (R := Ctx (ins m) κ) (Φ := fun c => iprop(Share c ∗ Bundle m c)) fun c _ => start_intro m κ c)
  isplitl [HL HI Hr]
  · iapply (ctx_intro m κ)
    isplitl [HL]; · iexact HL
    isplitl [HI]; · iexact HI
    iexact Hr
  rw [bigSep_sep']
  isplitr [HB]
  · iapply share_intro
    isplitl [Hat]; · iexact Hat
    isplitl [Ho] <;> iassumption
  iexact HB

/-! ### The run -/

/-- The rendezvous's is the only semaphore that outlives the call. -/
theorem unscoped_bar : ∀ sm : SemLoc sig, sm.isScoped .tc = false → sm = .reg barrier0 := by decide

set_option backward.isDefEq.respectTransparency.types false in
/-- Every run of the program ends with the arguments as they were, the result holding what the kernel put there, and every counter
    at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v3_0) = outArr (ins m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      rw [all_G]
      unfold u₀
      iintro Hu
      ihave H := (ownU_pair _ _) $$ Hu
      icases H with ⟨HP, HX⟩
      ihave HX := (own_pair_emb embR _ _) $$ HX
      icases HX with ⟨HX, -⟩
      imodintro
      isplitl [HP]; · iexact HP
      iexact HX)
    (T₀ := Start m) (Tₙ := Left m)
    (hch := ⟨fun c => .rfl, fun c => reg_pre m c, fun c => reg_post m c⟩)
    (hinit := init m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_arg2).view.loc (c : Thread nD τ)) = V₂ m c main_arg2
        ∧ s.mem ((Memref.whole main_v3_0).view.loc (c : Thread nD τ)) = V₂ m c main_v3_0) ∧ s.sem (barC c) = 0)
    (hfin := fun c s' => by
      unfold Left; rw [kept_eq]
      iintro ⟨⟨⟨H0, H1, H2, -, HO⟩, Hb⟩, HSI⟩
      icombine HSI H0 gives %h0
      icombine HSI H1 gives %h1
      icombine HSI H2 gives %h2
      icombine HSI HO gives %hO
      icombine HSI Hb gives %hb
      imodintro
      isplitr
      · ipureintro
        exact ⟨⟨Buf.eq_of_forall_mem_univ h0, Buf.eq_of_forall_mem_univ h1, Buf.eq_of_forall_mem_univ h2, Buf.eq_of_forall_mem_univ hO⟩, by simpa using hb⟩
      iexact HSI)
    (hQ := fun s h hs => ⟨fun c => by
        obtain ⟨⟨h0, h1, h2, hO⟩, -⟩ := h c
        rw [V₂_arg0] at h0; rw [V₂_arg1] at h1; rw [V₂_arg2] at h2; rw [V₂_out] at hO
        exact ⟨h0.trans (V_main_arg0 m c), h1.trans (V_main_arg1 m c), h2.trans (V_main_arg2 m c), hO⟩,
      sem_eq_zero hs fun c sm hsm => by
        obtain rfl := unscoped_bar sm hsm
        exact (h c).2⟩)

end Cert.KernelIdeal.Rms

end
-- ==== Proof.Row.lean ====
/-
  One row, exactly.

  On the extended reals the kernel multiplies a row by the reciprocal root of its mean square, and the reference divides it
  by the root. The mean square is never negative and the constant added to it is positive, so the two agree on every row,
  infinities included.
-/
module

public import proofs.«01_k».proof.Proof.Program
public import Idealize.ShloMosaic.PureOps.Ideal
public import Idealize.ShloMosaic.PureOps.Ideal.Laws
public import Idealize.ShloMosaic.Lib.Pointwise

@[expose] public section

noncomputable section

namespace Cert.KernelIdeal.Rms

open Idealize.ShloMosaic Cert.KernelIdeal

/-- The mean square of a row, with the small constant added. -/
def meanSq (y : Fin 4096 → EReal) : EReal :=
  Ideal.div (∑ k, y k * y k) (Ideal.ofBits .f32 0x45800000#32) + Ideal.ofBits .f32 0x358637BD#32

/-- Entry `l` of a row normalised, times `g`. -/
def rowVal (y : Fin 4096 → EReal) (g : EReal) (l : Fin 4096) : EReal := y l * Ideal.rsqrt (meanSq y) * g

/-- The divisor is 4096. -/
theorem count_eq : Ideal.ofBits .f32 0x45800000#32 = ((4096 : ℝ) : EReal) := by
  simp [Ideal.ofBits, Ideal.ieee, -EReal.coe_mul]; norm_num

/-- The constant added is positive. -/
theorem eps_pos : 0 < Ideal.ofBits .f32 0x358637BD#32 := by
  simp [Ideal.ofBits, Ideal.ieee, -EReal.coe_mul]

/-- A square is not negative. -/
theorem square_nonneg (x : EReal) : 0 ≤ x * x := by
  rcases le_total 0 x with h | h
  · exact mul_nonneg h h
  · rw [← neg_mul_neg]; exact mul_nonneg (EReal.neg_nonneg.mpr h) (EReal.neg_nonneg.mpr h)

/-- A row's mean square with the constant is above zero. -/
theorem meanSq_pos (y : Fin 4096 → EReal) : 0 < meanSq y := by
  unfold meanSq
  rw [count_eq, Ideal.div_coe (by norm_num : (4096 : ℝ) ≠ 0)]
  exact lt_of_lt_of_le eps_pos (le_add_of_nonneg_left
    (mul_nonneg (Finset.sum_nonneg fun k _ => square_nonneg (y k)) (EReal.coe_nonneg.mpr (by norm_num))))

/-- Dividing by the root of a positive value is multiplying by its reciprocal root. -/
theorem div_sqrt (y : EReal) {v : EReal} (h : 0 < v) : Ideal.div y (Ideal.sqrt v) = y * Ideal.rsqrt v := by
  induction v with
  | bot => exact absurd h (by simp)
  | top => simp [Ideal.div]
  | coe r =>
    have hr : 0 < r := EReal.coe_pos.mp h
    have hs : Real.sqrt r ≠ 0 := (Real.sqrt_pos.mpr hr).ne'
    rw [Ideal.sqrt_coe, if_neg hr.le.not_gt, Ideal.rsqrt_coe, if_neg hr.le.not_gt, if_neg hr.ne', Ideal.div_coe hs, one_div]

/-- The reference's spelling of an entry. -/
theorem rowVal_div (y : Fin 4096 → EReal) (g : EReal) (l : Fin 4096) : Ideal.div (y l) (Ideal.sqrt (meanSq y)) * g = rowVal y g l := by
  rw [div_sqrt _ (meanSq_pos y)]; rfl

/-- An entry of a normalised chunk is that of its row. -/
theorem normBlk_apply (y : FVec Ideal S256x4096 .f32) (g : Vec Ideal S1x4096 .f32) (x : S256x4096.Idx) :
    normBlk y g x = rowVal (fun k => y (ix2 (x 0) k)) (g (ix2 0 (x 1))) (x 1) := by
  obtain ⟨r, l, rfl⟩ : ∃ (r : Fin 256) (l : Fin 4096), x = ix2 r l := ⟨x 0, x 1, (ix2_eta x).symm⟩
  show _ = rowVal (fun k => y (ix2 r k)) (g (ix2 0 l)) l
  unfold normBlk rowVal meanSq
  pointwise

end Cert.KernelIdeal.Rms

end
-- ==== Proof.RefVal.lean ====
/-
  What the reference computes: every entry of its result, as the normalised row of the sum of the two partial sums and the
  residual.
-/
module

public import proofs.«01_k».proof.Proof.Row
public import proofs.«01_k».proof.Proof.Gen.ReferenceIdeal.Run

@[expose] public section

noncomputable section

namespace Cert.ReferenceIdeal.Rms

open Idealize.ShloMosaic Cert.ReferenceIdeal Cert.ReferenceIdeal.Gen
open Cert.KernelIdeal.Rms (rowVal meanSq rowVal_div)

variable (P : FVec Ideal S2x4096x4096 .f32) (R : FVec Ideal S4096x4096 .f32) (G : FVec Ideal S4096 .f32)

/-- The row before the normalisation: the two partial sums, and the residual. -/
def sumRow (r : Fin 4096) (k : Fin 4096) : EReal := P (ix3 0 r k) + P (ix3 1 r k) + R (ix2 r k)

/-- The result. -/
def result : FVec Ideal S4096x4096 .f32 := fun i => rowVal (sumRow P R (i 0)) (G (ix1 (i 1))) (i 1)

/-- The sum of the reference, as its operations give it. -/
def summed : FVec Ideal S4096x4096 .f32 :=
  addf (Host.reduceAdd P (constant S_ .f32 0x00000000#32) reducesTo_S2x4096x4096_S4096x4096_d0 h_S_) R

/-- An element of the reference's sum. -/
theorem summed_apply (r k : Fin 4096) : summed P R (ix2 r k) = sumRow P R r k := by
  unfold summed sumRow
  pointwise
  rw [Fin.sum_univ_two]

/-- The operations of the reference give that result. -/
theorem result_eq :
    mulf (Host.divf (summed P R) (broadcastInDim S4096x4096 ![0, 1] bcast_S4096x1_S4096x4096_0_1 (Host.sqrt (addf (Host.divf
      (broadcastInDim S4096x1 ![0] bcast_S4096_S4096x1_0 (Host.reduceAdd (mulf (summed P R) (summed P R)) (constant S_ .f32 0x00000000#32) reducesTo_S4096x4096_S4096_d1 h_S_))
      (broadcastInDim S4096x1 ![] bcast_S_S4096x1 (constant S_ .f32 0x45800000#32))) (broadcastInDim S4096x1 ![] bcast_S_S4096x1 (constant S_ .f32 0x358637BD#32))))))
      (broadcastInDim S4096x4096 ![0, 1] bcast_S1x4096_S4096x4096_0_1 (broadcastInDim S1x4096 ![1] bcast_S4096_S1x4096_1 G)) = result P R G := by
  funext i
  obtain ⟨r, l, rfl⟩ : ∃ r l : Fin 4096, i = ix2 r l := ⟨i 0, i 1, (ix2_eta i).symm⟩
  show _ = rowVal (sumRow P R r) (G (ix1 l)) l
  rw [← rowVal_div]
  unfold meanSq
  simp only [← summed_apply]
  generalize summed P R = Y
  pointwise

end Cert.ReferenceIdeal.Rms

end
-- ==== Proof.Value.lean ====
/-
  What the kernel computes, exactly.

  On the extended reals a change of format is the identity, so every device's result is the reference's: a row of it is
  normalised on the device that owns the row, from its own partial sum, its neighbour's along `x`, and the residual, and the
  neighbour along `y` has it as it was sent.
-/
module

public import proofs.«01_k».proof.Proof.Region
public import proofs.«01_k».proof.Proof.RefVal
public import proofs.«01_k».proof.Defs

@[expose] public section

set_option synthInstance.maxSize 4096

noncomputable section

namespace Cert.KernelIdeal.Rms

open Idealize.ShloMosaic Idealize.ShloMosaic.TcCoe Cert.KernelIdeal Cert.KernelIdeal.Gen Idealize.SL.Sem

/-! ### The arrays the kernel reads -/

section Arrays

variable {F : FTy → Type} [FloatOps F] (m : (ℓ : Loc nD τ sig) → Buf (Elt F) ℓ)

/-- Dropping or adding a leading axis of size one. -/
theorem drop_lead {α : Type} (x : S1x4096x4096.Idx → α) (r k : Fin 4096) :
    shapeCast S4096x4096 x shapeCasts_S1x4096x4096_S4096x4096 (ix2 r k) = x (ix3 0 r k) := by simp only [pointwise]
/-- The reshape of the scale keeps its elements. -/
theorem add_lead {α : Type} (x : S4096.Idx → α) (l : Fin 4096) :
    shapeCast S1x4096 x shapeCasts_S4096_S1x4096 (ix2 0 l) = x (ix1 l) := by simp only [pointwise]

/-- The reshaped partial sums. -/
theorem part_apply (c : Dev nD) (r k : Fin 4096) :
    (V m c main_v1 : S4096x4096.Idx → F .f32) (ix2 r k) = (m ((c : Thread nD τ).loc main_arg0) : S1x4096x4096.Idx → F .f32) (ix3 0 r k) := by
  have h : (V m c main_v1 : S4096x4096.Idx → F .f32)
      = shapeCast S4096x4096 (m ((c : Thread nD τ).loc main_arg0) : S1x4096x4096.Idx → F .f32) shapeCasts_S1x4096x4096_S4096x4096 := by
    show StableHlo.after hostOps0 _ (Proc.devRef .tc main_v1) = _
    after_results
    rfl
  exact (congrFun h _).trans (drop_lead _ r k)

/-- The reshaped scale. -/
theorem scale_apply (c : Dev nD) (l : Fin 4096) :
    (iblk m c 0 t0_0 : S1x4096.Idx → F .f32) (ix2 0 l) = (m ((c : Thread nD τ).loc main_arg2) : S4096.Idx → F .f32) (ix1 l) := by
  have h : (V m c main_v2 : S1x4096.Idx → F .f32)
      = shapeCast S1x4096 (m ((c : Thread nD τ).loc main_arg2) : S4096.Idx → F .f32) shapeCasts_S4096_S1x4096 := by
    show StableHlo.after hostOps0 _ (Proc.devRef .tc main_v2) = _
    after_results
    rfl
  have h' : (iblk m c 0 t0_0 : S1x4096.Idx → F .f32) (ix2 0 l) = (V m c main_v2 : S1x4096.Idx → F .f32) (ix2 0 l) := by
    show (V m c main_v2 : S1x4096.Idx → F .f32) _ = _
    congr 1
    funext a
    fin_cases a
    · rfl
    · refine Fin.ext ?_
      show 0 + 1 * l.val = l.val
      omega
  exact h'.trans ((congrFun h _).trans (add_lead _ l))

/-- Where the entry of a chunk that holds entry `(r, k)` of the array lies, on a device that owns the row. -/
theorem own_emb {c : Dev nD} {r l : Fin 4096} (h : r.val / 2048 = c.val % 2) (k : Fin 4096) :
    ((rOwn c (chunkNo (ix2 r l))).emb (ix2 (inChunk (ix2 r l) 0) k) : S4096x4096.Idx) = ix2 r k := by
  obtain ⟨e0, e1⟩ := rows_emb (inb := k0_off1_inb c (chunkNo (ix2 r l))) (k0_off1_eq c (chunkNo (ix2 r l))) (ix2 (inChunk (ix2 r l) 0) k)
  funext a
  fin_cases a
  · refine Fin.ext (e0.trans ?_)
    show 2048 * (c.val % 2) + 256 * (r.val / 256 % 8) + r.val % 256 = r.val
    have := r.isLt
    omega
  · exact Fin.ext e1

end Arrays

/-! ### The result -/

variable {m : (ℓ : Loc nD τ sig) → Buf (Elt Ideal) ℓ}
variable {P : FVec Ideal ⟨3, ![2, 4096, 4096]⟩ .f32} {R : FVec Ideal S4096x4096 .f32} {G : FVec Ideal S4096 .f32}

/-- Every device holds its block of the partial sums, and the residual and the scale. -/
def Agree (m : (ℓ : Loc nD τ sig) → Buf (Elt Ideal) ℓ) (P : FVec Ideal ⟨3, ![2, 4096, 4096]⟩ .f32) (R : FVec Ideal S4096x4096 .f32) (G : FVec Ideal S4096 .f32) : Prop :=
  ∀ c : Dev nD, m ((c : Thread nD τ).loc main_arg0) = Layout.blockN ⟨3, ![1, 4096, 4096]⟩ ⟨3, ![2, 4096, 4096]⟩ (Layout.meshBlock [2, 2] ![[0], [], []] c) P
    ∧ m ((c : Thread nD τ).loc main_arg1) = R ∧ m ((c : Thread nD τ).loc main_arg2) = G

/-- The device's block of the partial sums. -/
theorem block_apply (c : Dev nD) (r k : Fin 4096) :
    (Layout.blockN ⟨3, ![1, 4096, 4096]⟩ ⟨3, ![2, 4096, 4096]⟩ (Layout.meshBlock [2, 2] ![[0], [], []] c) P : S1x4096x4096.Idx → Ideal .f32) (ix3 0 r k)
      = P (ix3 ⟨c.val / 2, by have := c.isLt; change c.val < 4 at this; omega⟩ r k) := by
  rw [Layout.blockN_apply]
  congr 1
  funext a
  have hc : c.val < 4 := c.isLt
  fin_cases a
  · refine Fin.ext ?_
    show (c.val / 2 % 2 * 1 + 0) * 1 + 0 = c.val / 2
    omega
  · refine Fin.ext ?_
    show 0 * 4096 + r.val = r.val
    omega
  · refine Fin.ext ?_
    show 0 * 4096 + k.val = k.val
    omega

/-- Neighbours along `x` own the same rows. -/
theorem xn_row : ∀ c : Dev nD, c.val % 2 = (xn c).val % 2 := by decide

/-- The kernel's sum, entry by entry: the change of format is the identity. -/
theorem sum_entry (p q r : FVec Ideal S256x4096 .f32) (x : S256x4096.Idx) : sumBlk p (roundBlk q) r x = p x + q x + r x := rfl

/-- The chunk before the normalisation: on a device that owns the row, the row of the reference's sum. -/
theorem sumBlk_apply (h : Agree m P R G) {c : Dev nD} {r l : Fin 4096} (hr : r.val / 2048 = c.val % 2) (k : Fin 4096) :
    sumBlk ((ins m).P c (chunkNo (ix2 r l))) ((ins m).SX (xn c) (chunkNo (ix2 r l))) ((ins m).R c (chunkNo (ix2 r l))) (ix2 (inChunk (ix2 r l) 0) k)
      = ReferenceIdeal.Rms.sumRow P R r k := by
  have part : ∀ d : Dev nD, r.val / 2048 = d.val % 2 → (ins m).P d (chunkNo (ix2 r l)) (ix2 (inChunk (ix2 r l) 0) k)
      = P (ix3 ⟨d.val / 2, by have := d.isLt; change d.val < 4 at this; omega⟩ r k) := fun d hd => by
    show (V m d main_v1 : S4096x4096.Idx → Ideal .f32) ((rOwn d (chunkNo (ix2 r l))).emb (ix2 (inChunk (ix2 r l) 0) k)) = _
    rw [own_emb hd, part_apply, (h d).1, block_apply]
  have res : (ins m).R c (chunkNo (ix2 r l)) (ix2 (inChunk (ix2 r l) 0) k) = R (ix2 r k) := by
    show (V m c main_arg1 : S4096x4096.Idx → Ideal .f32) ((rOwn c (chunkNo (ix2 r l))).emb (ix2 (inChunk (ix2 r l) 0) k)) = _
    rw [own_emb hr, V_main_arg1, (h c).2.1]
  unfold Ins.SX
  rw [sum_entry, part c hr, part (xn c) (hr.trans (xn_row c)), res]
  unfold ReferenceIdeal.Rms.sumRow
  congr 1
  have hc : c.val < 4 := c.isLt
  rcases Nat.lt_or_ge c.val 2 with h2 | h2
  · refine congrArg₂ (· + ·) (congrArg (fun a => P (ix3 a r k)) (Fin.ext ?_)) (congrArg (fun a => P (ix3 a r k)) (Fin.ext ?_))
    · show c.val / 2 = 0; omega
    · show (c.val + 2) % 4 / 2 = 1; omega
  · rw [add_comm]
    refine congrArg₂ (· + ·) (congrArg (fun a => P (ix3 a r k)) (Fin.ext ?_)) (congrArg (fun a => P (ix3 a r k)) (Fin.ext ?_))
    · show (c.val + 2) % 4 / 2 = 0; omega
    · show c.val / 2 = 1; omega

/-- What the owner of a row computes is that row of the reference's result. -/
theorem own_apply (h : Agree m P R G) {c : Dev nD} {r l : Fin 4096} (hr : r.val / 2048 = c.val % 2) :
    (ins m).O c (chunkNo (ix2 r l)) (inChunk (ix2 r l)) = ReferenceIdeal.Rms.result P R G (ix2 r l) := by
  unfold Ins.O
  rw [normBlk_apply]
  show rowVal _ ((iblk m c 0 t0_0 : S1x4096.Idx → Ideal .f32) (ix2 0 l)) l = rowVal (ReferenceIdeal.Rms.sumRow P R r) (G (ix1 l)) l
  rw [scale_apply, (h c).2.2, funext (sumBlk_apply h hr)]

/-- Every device ends with the reference's result. -/
theorem outArr_eq (h : Agree m P R G) (c : Dev nD) : outArr (ins m) c = ReferenceIdeal.Rms.result P R G := by
  funext i
  obtain ⟨r, l, rfl⟩ : ∃ r l : Fin 4096, i = ix2 r l := ⟨i 0, i 1, (ix2_eta i).symm⟩
  unfold outArr
  by_cases hr : r.val / 2048 = c.val % 2
  · rw [if_pos (show (ix2 r l 0).val / 2048 = c.val % 2 from hr)]; exact own_apply h hr
  · rw [if_neg (show ¬ (ix2 r l 0).val / 2048 = c.val % 2 from hr)]
    refine own_apply h (c := yn c) ?_
    have := r.isLt
    show r.val / 2048 = (2 * (c.val / 2) + (1 - c.val % 2)) % 2
    omega

end Cert.KernelIdeal.Rms

end
-- ==== Proof.lean ====
/-
  The certificate: the three programs run to their ends with their arguments as they were and every counter at zero, and on
  the extended reals every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- For any float values the kernel runs to its end, its arguments as they were and every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run Cert.KernelIdeal.defs _ _).mono (fun _ h => ⟨fun c => ⟨(h.1 c).1, (h.1 c).2.1, (h.1 c).2.2.1⟩, h.2⟩)
    (Cert.KernelIdeal.Rms.run_main m ρ)

/-- The two programs' kernel bodies are one text: the same label runs the same body. -/
theorem defs₀_eq : Cert.Kernel.defs₀ (F := Bits) = Cert.KernelIdeal.defs₀ (F := Bits) := by
  unfold Cert.Kernel.defs₀ Cert.KernelIdeal.defs₀
  refine congrArg Defs.onTc ?_
  funext p x
  match p, x with
  | 0, (_, _) => rfl
  | ⟨_ + 1, h⟩, _ => exact absurd h (Nat.not_lt.2 (Nat.le_add_left _ _))

/-- So their body tables are the same. -/
theorem defs_eq : Cert.Kernel.defs (F := Bits) = Cert.KernelIdeal.defs (F := Bits) := by
  unfold Cert.Kernel.defs Cert.KernelIdeal.defs
  rw [defs₀_eq]
  rfl

/-- The two programs' host code is one text too. -/
theorem main_eq : Cert.Kernel.main (F := Bits) = Cert.KernelIdeal.main (F := Bits) := rfl

/-- A run under one body table and host code is a run under any equal to them. -/
theorem run_of_eq {nD : Nat} {τ : Topo} {sig : RefSig} {E : EltTy → Type} {Λ : Labels} {D D' : Defs nD τ sig E Λ}
    {M M' : Dev nD → Prog (TpuEff nD τ sig E Λ .tc) PUnit} (hD : D = D') (hM : M = M') {s : MemSt nD τ sig E}
    {Q : PUnit × MemSt nD τ sig E → Prop} (h : θ_run D' (onTc M') s Q) : θ_run D (onTc M) s Q := by
  subst hD hM; exact h

/-- The kernel with words for floats: its text is the idealized one's. -/
theorem frame_kernel : Cert.quiescent_Kernel := fun m ρ _ => run_of_eq defs_eq main_eq (frame (F := Bits) m ρ)

/-- The kernel with extended reals for floats. -/
theorem frame_ideal : Cert.quiescent_KernelIdeal := fun m ρ _ => frame (F := Ideal) m ρ

/-- The reference runs to its end; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the extended reals every device's result is the reference's: each row of the sum of the two partial sums and the
    residual, over the root of its mean square, times the scale. -/
theorem algebraic : Cert.algebraic_KernelIdeal_ReferenceIdeal := fun m ρ m' ρ' _ hag =>
  ⟨Cert.ReferenceIdeal.Rms.result _ _ _,
    (θ_run Cert.KernelIdeal.defs _ _).mono
      (fun _ h c => ⟨(h.1 c).2.2.2.trans (Cert.KernelIdeal.Rms.outArr_eq hag c), (h.1 c).1, (h.1 c).2.1, (h.1 c).2.2.1⟩)
      (Cert.KernelIdeal.Rms.run_main (F := Ideal) m ρ),
    (θ_run Cert.ReferenceIdeal.defs _ _).mono
      (fun _ h => ⟨(h 0).1.trans (Cert.ReferenceIdeal.Rms.result_eq _ _ _), (h 0).2⟩)
      (Cert.ReferenceIdeal.Value.run (F := Ideal) m' ρ')⟩

/-- All the claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
